-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33_0) = v0 c
          ∧ r.2.mem ((c.tc : Thread Cert.ReferenceIdeal.nD Cert.ReferenceIdeal.τ).loc Cert.ReferenceIdeal.main_v33_1) = v1 c
          ∧ r.2.mem ((c.tc : Thread Cert.ReferenceIdeal.nD Cert.ReferenceIdeal.τ).loc Cert.ReferenceIdeal.main_v33_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S4096x28672 : Shape := ⟨2, ![4096, 28672]⟩
abbrev S28672 : Shape := ⟨1, ![28672]⟩
abbrev S16x4096 : Shape := ⟨2, ![16, 4096]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S1x28672 : Shape := ⟨2, ![1, 28672]⟩
abbrev S16x28672 : Shape := ⟨2, ![16, 28672]⟩
abbrev S16x1 : Shape := ⟨2, ![16, 1]⟩
abbrev S4096x1024 : Shape := ⟨2, ![4096, 1024]⟩
abbrev S1x1024 : Shape := ⟨2, ![1, 1024]⟩
abbrev S16x1024 : Shape := ⟨2, ![16, 1024]⟩
abbrev S16x128 : Shape := ⟨2, ![16, 128]⟩
abbrev S16 : Shape := ⟨1, ![16]⟩

abbrev nBuf : Space → Nat
  | .hbm => 43
  | .vmem => 12
  | .smem => 0
  | _ => 0

abbrev bufTy : (tb : Table) → Fin (tcTables nBuf tb) → BufTy
  | .hbm, ⟨0, _⟩ => ⟨S16x1x4096, .bf16⟩
  | .hbm, ⟨1, _⟩ => ⟨S4096x28672, .i8⟩
  | .hbm, ⟨2, _⟩ => ⟨S28672, .f32⟩
  | .hbm, ⟨3, _⟩ => ⟨S28672, .f32⟩
  | .hbm, ⟨4, _⟩ => ⟨S16x4096, .bf16⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S1x2, .f32⟩
  | .hbm, ⟨9, _⟩ => ⟨S1x2, .f32⟩
  | .hbm, ⟨10, _⟩ => ⟨S2x2, .f32⟩
  | .hbm, ⟨11, _⟩ => ⟨S2x2, .f32⟩
  | .hbm, ⟨12, _⟩ => ⟨S2x4, .f32⟩
  | .hbm, ⟨13, _⟩ => ⟨S2x4, .f32⟩
  | .hbm, ⟨14, _⟩ => ⟨S4x4, .f32⟩
  | .hbm, ⟨15, _⟩ => ⟨S4x4, .f32⟩
  | .hbm, ⟨16, _⟩ => ⟨S4x8, .f32⟩
  | .hbm, ⟨17, _⟩ => ⟨S4x8, .f32⟩
  | .hbm, ⟨18, _⟩ => ⟨S8x8, .f32⟩
  | .hbm, ⟨19, _⟩ => ⟨S8x8, .f32⟩
  | .hbm, ⟨20, _⟩ => ⟨S8x16, .f32⟩
  | .hbm, ⟨21, _⟩ => ⟨S8x16, .f32⟩
  | .hbm, ⟨22, _⟩ => ⟨S16x16, .f32⟩
  | .hbm, ⟨23, _⟩ => ⟨S16x16, .f32⟩
  | .hbm, ⟨24, _⟩ => ⟨S16x32, .f32⟩
  | .hbm, ⟨25, _⟩ => ⟨S16x32, .f32⟩
  | .hbm, ⟨26, _⟩ => ⟨S32x32, .f32⟩
  | .hbm, ⟨27, _⟩ => ⟨S32x32, .f32⟩
  | .hbm, ⟨28, _⟩ => ⟨S32x64, .f32⟩
  | .hbm, ⟨29, _⟩ => ⟨S32x64, .f32⟩
  | .hbm, ⟨30, _⟩ => ⟨S64x64, .f32⟩
  | .hbm, ⟨31, _⟩ => ⟨S64x64, .f32⟩
  | .hbm, ⟨32, _⟩ => ⟨S64x128, .f32⟩
  | .hbm, ⟨33, _⟩ => ⟨S64x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S1x28672, .f32⟩
  | .hbm, ⟨39, _⟩ => ⟨S1x28672, .f32⟩
  | .hbm, ⟨40, _⟩ => ⟨S16x28672, .bf16⟩
  | .hbm, ⟨41, _⟩ => ⟨S16x4096, .i8⟩
  | .hbm, ⟨42, _⟩ => ⟨S16x1, .f32⟩
  | .local _ .vmem, ⟨0, _⟩ => ⟨S16x4096, .bf16⟩
  | .local _ .vmem, ⟨1, _⟩ => ⟨S128x128, .f32⟩
  | .local _ .vmem, ⟨2, _⟩ => ⟨S4096x1024, .i8⟩
  | .local _ .vmem, ⟨3, _⟩ => ⟨S4096x1024, .i8⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S16x1024, .bf16⟩
  | .local _ .vmem, ⟨9, _⟩ => ⟨S16x1024, .bf16⟩
  | .local _ .vmem, ⟨10, _⟩ => ⟨S16x4096, .i8⟩
  | .local _ .vmem, ⟨11, _⟩ => ⟨S16x1, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_v8 : Ref sig .tc := ⟨.hbm, 19, rfl⟩
abbrev main_call3_v0 : Ref sig .tc := ⟨.hbm, 20, rfl⟩
abbrev main_call3_v1 : Ref sig .tc := ⟨.hbm, 21, rfl⟩
abbrev main_v9 : Ref sig .tc := ⟨.hbm, 22, rfl⟩
abbrev main_v10 : Ref sig .tc := ⟨.hbm, 23, rfl⟩
abbrev main_call4_v0 : Ref sig .tc := ⟨.hbm, 24, rfl⟩
abbrev main_call4_v1 : Ref sig .tc := ⟨.hbm, 25, rfl⟩
abbrev main_v11 : Ref sig .tc := ⟨.hbm, 26, rfl⟩
abbrev main_v12 : Ref sig .tc := ⟨.hbm, 27, rfl⟩
abbrev main_call5_v0 : Ref sig .tc := ⟨.hbm, 28, rfl⟩
abbrev main_call5_v1 : Ref sig .tc := ⟨.hbm, 29, rfl⟩
abbrev main_v13 : Ref sig .tc := ⟨.hbm, 30, rfl⟩
abbrev main_v14 : Ref sig .tc := ⟨.hbm, 31, rfl⟩
abbrev main_call6_v0 : Ref sig .tc := ⟨.hbm, 32, rfl⟩
abbrev main_call6_v1 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x1x4096 : Shape := ⟨3, ![16, 1, 4096]⟩
abbrev S4096x28672 : Shape := ⟨2, ![4096, 28672]⟩
abbrev S28672 : Shape := ⟨1, ![28672]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S16x1x32x128 : Shape := ⟨4, ![16, 1, 32, 128]⟩
abbrev S16x1 : Shape := ⟨2, ![16, 1]⟩
abbrev S16x1x1 : Shape := ⟨3, ![16, 1, 1]⟩
abbrev S16x4096 : Shape := ⟨2, ![16, 4096]⟩
abbrev S1x28672 : Shape := ⟨2, ![1, 28672]⟩
abbrev S16x28672 : Shape := ⟨2, ![16, 28672]⟩

abbrev nBuf : Space → Nat
  | .hbm => 61
  | .vmem => 8
  | .smem => 0
  | _ => 0

abbrev bufTy : (tb : Table) → Fin (tcTables nBuf tb) → BufTy
  | .hbm, ⟨0, _⟩ => ⟨S16x1x4096, .bf16⟩
  | .hbm, ⟨1, _⟩ => ⟨S4096x28672, .i8⟩
  | .hbm, ⟨2, _⟩ => ⟨S28672, .f32⟩
  | .hbm, ⟨3, _⟩ => ⟨S28672, .f32⟩
  | .hbm, ⟨4, _⟩ => ⟨S16x1x4096, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S1x2, .f32⟩
  | .hbm, ⟨9, _⟩ => ⟨S1x2, .f32⟩
  | .hbm, ⟨10, _⟩ => ⟨S2x2, .f32⟩
  | .hbm, ⟨11, _⟩ => ⟨S2x2, .f32⟩
  | .hbm, ⟨12, _⟩ => ⟨S2x4, .f32⟩
  | .hbm, ⟨13, _⟩ => ⟨S2x4, .f32⟩
  | .hbm, ⟨14, _⟩ => ⟨S4x4, .f32⟩
  | .hbm, ⟨15, _⟩ => ⟨S4x4, .f32⟩
  | .hbm, ⟨16, _⟩ => ⟨S4x8, .f32⟩
  | .hbm, ⟨17, _⟩ => ⟨S4x8, .f32⟩
  | .hbm, ⟨18, _⟩ => ⟨S8x8, .f32⟩
  | .hbm, ⟨19, _⟩ => ⟨S8x8, .f32⟩
  | .hbm, ⟨20, _⟩ => ⟨S8x16, .f32⟩
  | .hbm, ⟨21, _⟩ => ⟨S8x16, .f32⟩
  | .hbm, ⟨22, _⟩ => ⟨S16x16, .f32⟩
  | .hbm, ⟨23, _⟩ => ⟨S16x16, .f32⟩
  | .hbm, ⟨24, _⟩ => ⟨S16x32, .f32⟩
  | .hbm, ⟨25, _⟩ => ⟨S16x32, .f32⟩
  | .hbm, ⟨26, _⟩ => ⟨S32x32, .f32⟩
  | .hbm, ⟨27, _⟩ => ⟨S32x32, .f32⟩
  | .hbm, ⟨28, _⟩ => ⟨S32x64, .f32⟩
  | .hbm, ⟨29, _⟩ => ⟨S32x64, .f32⟩
  | .hbm, ⟨30, _⟩ => ⟨S64x64, .f32⟩
  | .hbm, ⟨31, _⟩ => ⟨S64x64, .f32⟩
  | .hbm, ⟨32, _⟩ => ⟨S64x128, .f32⟩
  | .hbm, ⟨33, _⟩ => ⟨S64x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S16x1x32x128, .f32⟩
  | .hbm, ⟨39, _⟩ => ⟨S16x1x32x128, .f32⟩
  | .hbm, ⟨40, _⟩ => ⟨S16x1x4096, .f32⟩
  | .hbm, ⟨41, _⟩ => ⟨S16x1x4096, .f32⟩
  | .hbm, ⟨42, _⟩ => ⟨S_, .f32⟩
  | .hbm, ⟨43, _⟩ => ⟨S16x1, .f32⟩
  | .hbm, ⟨44, _⟩ => ⟨S16x1x1, .f32⟩
  | .hbm, ⟨45, _⟩ => ⟨S_, .f32⟩
  | .hbm, ⟨46, _⟩ => ⟨S16x1x1, .f32⟩
  | .hbm, ⟨47, _⟩ => ⟨S16x1x1, .i1⟩
  | .hbm, ⟨48, _⟩ => ⟨S_, .f32⟩
  | .hbm, ⟨49, _⟩ => ⟨S16x1x1, .f32⟩
  | .hbm, ⟨50, _⟩ => ⟨S16x1x1, .f32⟩
  | .hbm, ⟨51, _⟩ => ⟨S_, .f32⟩
  | .hbm, ⟨52, _⟩ => ⟨S16x1x1, .f32⟩
  | .hbm, ⟨53, _⟩ => ⟨S16x1x1, .f32⟩
  | .hbm, ⟨54, _⟩ => ⟨S16x4096, .f32⟩
  | .hbm, ⟨55, _⟩ => ⟨S16x1, .f32⟩
  | .hbm, ⟨56, _⟩ => ⟨S1x28672, .f32⟩
  | .hbm, ⟨57, _⟩ => ⟨S1x28672, .f32⟩
  | .hbm, ⟨58, _⟩ => ⟨S16x28672, .bf16⟩
  | .hbm, ⟨59, _⟩ => ⟨S16x4096, .i8⟩
  | .hbm, ⟨60, _⟩ => ⟨S16x1, .f32⟩
  | .local _ .vmem, ⟨0, _⟩ => ⟨S16x4096, .f32⟩
  | .local _ .vmem, ⟨1, _⟩ => ⟨S16x1, .f32⟩
  | .local _ .vmem, ⟨2, _⟩ => ⟨S4096x28672, .i8⟩
  | .local _ .vmem, ⟨3, _⟩ => ⟨S1x28672, .f32⟩
  | .local _ .vmem, ⟨4, _⟩ => ⟨S1x28672, .f32⟩
  | .local _ .vmem, ⟨5, _⟩ => ⟨S16x28672, .bf16⟩
  | .local _ .vmem, ⟨6, _⟩ => ⟨S16x4096, .i8⟩
  | .local _ .vmem, ⟨7, _⟩ => ⟨S16x1, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_v8 : Ref sig .tc := ⟨.hbm, 19, rfl⟩
abbrev main_call3_v0 : Ref sig .tc := ⟨.hbm, 20, rfl⟩
abbrev main_call3_v1 : Ref sig .tc := ⟨.hbm, 21, rfl⟩
abbrev main_v9 : Ref sig .tc := ⟨.hbm, 22, rfl⟩
abbrev main_v10 : Ref sig .tc := ⟨.hbm, 23, rfl⟩
abbrev main_call4_v0 : Ref sig .tc := ⟨.hbm, 24, rfl⟩
abbrev main_call4_v1 : Ref sig .tc := ⟨.hbm, 25, rfl⟩
abbrev main_v11 : Ref sig .tc := ⟨.hbm, 26, rfl⟩
abbrev main_v12 : Ref sig .tc := ⟨.hbm, 27, rfl⟩
abbrev main_call5_v0 : Ref sig .tc := ⟨.hbm, 28, rfl⟩
abbrev main_call5_v1 : Ref sig .tc := ⟨.hbm, 29, rfl⟩
abbrev main_v13 : Ref sig .tc := ⟨.hbm, 30, rfl⟩
abbrev main_v14 : Ref sig .tc := ⟨.hbm, 31, rfl⟩
abbrev main_call6_v0 : Ref sig .tc := ⟨.hbm, 32, rfl⟩
abbrev main_call6_v1 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_call7_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x28672 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x28672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x28672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x28672 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit.Basic

/-! # The kernel's body at one grid point

The body has one conditional: at the first grid point it rotates and quantises the activations into the two
resident output blocks; at every point it multiplies the codes by the point's weight columns. `run_first` is
the body's triple at the first point, `run_later` at any other; both name what each output block holds
afterwards. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first grid point computes -/

/-- The Hadamard block as the body loads it: the whole staged matrix. -/
abbrev hadBlock (x1 : Vec F S128x128 .f32) : Vec F S128x128 .f32 :=
  View.ld x1 (Rect.unit (s := S128x128) ![0, 0] S128x128.size inb_S128x128_S128x128_0_0)

/-- One group of 128 activation columns, from the column offset `off` on. -/
abbrev group (x0 : Vec F S16x4096 .bf16) (off : Fin S16x4096.rank → ℕ) (inb : ∀ a, off a + S16x128.size a ≤ S16x4096.size a) :
    Vec F S16x128 .bf16 :=
  View.ld x0 (Rect.unit (s := S16x4096) off S16x128.size inb)

/-- The rotated activations: the 32 groups, each multiplied by the Hadamard block, side by side. -/
def rotated (x0 : Vec F S16x4096 .bf16) (x1 : Vec F S128x128 .f32) : FVec F S16x4096 .f32 :=
  k0_pay31 (k0_pay4 (hadBlock x1))
    (k0_pay5 (hadBlock x1) (group x0 ![0, 0] inb_S16x4096_S16x128_0_0))
    (k0_pay6 (hadBlock x1) (group x0 ![0, 128] inb_S16x4096_S16x128_0_128))
    (k0_pay7 (hadBlock x1) (group x0 ![0, 256] inb_S16x4096_S16x128_0_256))
    (k0_pay8 (hadBlock x1) (group x0 ![0, 384] inb_S16x4096_S16x128_0_384))
    (k0_pay9 (hadBlock x1) (group x0 ![0, 512] inb_S16x4096_S16x128_0_512))
    (k0_pay10 (hadBlock x1) (group x0 ![0, 640] inb_S16x4096_S16x128_0_640))
    (k0_pay11 (hadBlock x1) (group x0 ![0, 768] inb_S16x4096_S16x128_0_768))
    (k0_pay12 (hadBlock x1) (group x0 ![0, 896] inb_S16x4096_S16x128_0_896))
    (k0_pay13 (k0_pay4 (hadBlock x1)) (group x0 ![0, 1024] inb_S16x4096_S16x128_0_1024))
    (k0_pay14 (k0_pay4 (hadBlock x1)) (group x0 ![0, 1152] inb_S16x4096_S16x128_0_1152))
    (k0_pay15 (k0_pay4 (hadBlock x1)) (group x0 ![0, 1280] inb_S16x4096_S16x128_0_1280))
    (k0_pay16 (k0_pay4 (hadBlock x1)) (group x0 ![0, 1408] inb_S16x4096_S16x128_0_1408))
    (k0_pay17 (k0_pay4 (hadBlock x1)) (group x0 ![0, 1536] inb_S16x4096_S16x128_0_1536))
    (k0_pay18 (k0_pay4 (hadBlock x1)) (group x0 ![0, 1664] inb_S16x4096_S16x128_0_1664))
    (k0_pay19 (k0_pay4 (hadBlock x1)) (group x0 ![0, 1792] inb_S16x4096_S16x128_0_1792))
    (k0_pay20 (k0_pay4 (hadBlock x1)) (group x0 ![0, 1920] inb_S16x4096_S16x128_0_1920))
    (k0_pay22 (k0_pay4 (hadBlock x1)) (k0_pay21 (group x0 ![0, 2048] inb_S16x4096_S16x128_0_2048)))
    (k0_pay23 (k0_pay4 (hadBlock x1)) (group x0 ![0, 2176] inb_S16x4096_S16x128_0_2176))
    (k0_pay24 (k0_pay4 (hadBlock x1)) (group x0 ![0, 2304] inb_S16x4096_S16x128_0_2304))
    (k0_pay25 (k0_pay4 (hadBlock x1)) (group x0 ![0, 2432] inb_S16x4096_S16x128_0_2432))
    (k0_pay26 (k0_pay4 (hadBlock x1)) (group x0 ![0, 2560] inb_S16x4096_S16x128_0_2560))
    (k0_pay27 (k0_pay4 (hadBlock x1)) (group x0 ![0, 2688] inb_S16x4096_S16x128_0_2688))
    (k0_pay28 (k0_pay4 (hadBlock x1)) (group x0 ![0, 2816] inb_S16x4096_S16x128_0_2816))
    (k0_pay29 (k0_pay4 (hadBlock x1)) (group x0 ![0, 2944] inb_S16x4096_S16x128_0_2944))
    (k0_pay30 (k0_pay4 (hadBlock x1)) (group x0 ![0, 3072] inb_S16x4096_S16x128_0_3072))
    (group x0 ![0, 3200] inb_S16x4096_S16x128_0_3200)
    (group x0 ![0, 3328] inb_S16x4096_S16x128_0_3328)
    (group x0 ![0, 3456] inb_S16x4096_S16x128_0_3456)
    (group x0 ![0, 3584] inb_S16x4096_S16x128_0_3584)
    (group x0 ![0, 3712] inb_S16x4096_S16x128_0_3712)
    (group x0 ![0, 3840] inb_S16x4096_S16x128_0_3840)
    (group x0 ![0, 3968] inb_S16x4096_S16x128_0_3968)

/-- Each token's largest absolute rotated activation. -/
def amax (r : FVec F S16x4096 .f32) : FVec F S16x1 .f32 :=
  shapeCast S16x1 (multiReduction .maximumf [1] S16 (absf r) 0xFF800000#32 reduces_S16x4096_S16 (.inl rfl) rfl) shapeCasts_S16_S16x1

/-- Is a token's largest absolute activation zero? -/
def isZero (a : FVec F S16x1 .f32) : IVec S16x1 1 :=
  cmpf .oeq a (broadcast S16x1 (Scalar.ofBits .f32 0x00000000#32 : F .f32))

/-- A token's largest absolute activation over seven. -/
def seventh (a : FVec F S16x1 .f32) : FVec F S16x1 .f32 :=
  divf a (broadcast S16x1 (Scalar.ofBits .f32 0x40E00000#32 : F .f32))

/-- The quantisation step of each token, as the body stores it. -/
def scales (x0 : Vec F S16x4096 .bf16) (x1 : Vec F S128x128 .f32) : Vec F S16x1 .f32 :=
  k0_pay1 (isZero (amax (rotated x0 x1))) (seventh (amax (rotated x0 x1))) (Scalar.ofBits .f32 0x3F800000#32 : F .f32)

/-- The four-bit codes of the rotated activations, as the body stores them. -/
def codes (x0 : Vec F S16x4096 .bf16) (x1 : Vec F S128x128 .f32) : Vec F S16x4096 .i8 :=
  k0_pay2 (rotated x0 x1) (isZero (amax (rotated x0 x1))) (seventh (amax (rotated x0 x1))) (Scalar.ofBits .f32 0x3F800000#32 : F .f32)

/-- A store through the whole-shape rectangle leaves its payload, whatever the memref held before. -/
theorem read_store_whole {S : Shape} {e : EltTy} (v : View sig .tc .vmem S e) (f : v.ty.Contents (Elt F))
    (off : Fin S.rank → ℕ) (inb : ∀ a, off a + S.size a ≤ S.size a) (h : ∀ a, off a = 0) (w : S.Idx → Elt F e) :
    v.read (Elt F) (v.writes (Elt F) f [(⟨Rect.unit off S.size inb, w⟩ : View.Piece (Elt F) S e)]) = w := by
  have h0 : off = fun _ => 0 := funext h
  subst h0
  refine (View.read_writes_eq_canon v f _ fun y => ⟨_, List.mem_singleton.mpr rfl, ?_⟩).trans (View.canon_cons_unit_lit inb w [] h)
  show y ∈ (Rect.whole S).set
  rw [Rect.set_whole]
  exact Finset.mem_univ y

/-- A load through the whole-shape rectangle reads what the memref holds. -/
theorem load_whole {S : Shape} {e : EltTy} (v : View sig .tc .vmem S e) (f : v.ty.Contents (Elt F))
    (off : Fin S.rank → ℕ) (inb : ∀ a, off a + S.size a ≤ S.size a) (h : ∀ a, off a = 0) :
    v.readAt (Elt F) (Rect.unit off S.size inb).toLoadRect f = v.read (Elt F) f := by
  rw [View.readAt_eq_ld]
  exact View.ld_unit_lit inb _ h

/-- The output block, operand by operand. -/
theorem pay3_congr {a a' : Vec F S16x4096 .i8} {w w' : Vec F S4096x1024 .i8} {s s' : Vec F S16x1 .f32} {u u' b b' : Vec F S1x1024 .f32}
    (ha : a = a') (hw : w = w') (hs : s = s') (hu : u = u') (hb : b = b') : k0_pay3 a w s u b = k0_pay3 a' w' s' u' b' := by
  subst ha hw hs hu hb; rfl

/-! ## The body's triple -/

-- the proof term of the run is large
set_option maxHeartbeats 1000000 in
/-- The body at the first grid point: it stores the codes and the scales of the staged activations, reads them
    back, and stores the block of the output they give. -/
theorem run_first (c : Dev nD) (i : grid0.Coords) (arg1 : Memref sig .tc .vmem S16x4096 .bf16) (harg1 : arg1.IsWhole)
    (arg2 : Memref sig .tc .vmem S128x128 .f32) (harg2 : arg2.IsWhole) (arg3 : Memref sig .tc .vmem S4096x1024 .i8) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S16x1024 .bf16) (harg6 : arg6.IsWhole) (arg7 : Memref sig .tc .vmem S16x4096 .i8) (harg7 : arg7.IsWhole)
    (arg8 : Memref sig .tc .vmem S16x1 .f32) (harg8 : arg8.IsWhole) (hc0 : k0_cond1 i = 1#1)
    (x0 : Vec F S16x4096 .bf16) (x1 : Vec F S128x128 .f32) (x2 : Vec F S4096x1024 .i8) (x3 : Vec F S1x1024 .f32) (x4 : Vec F S1x1024 .f32) (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k0_pay3 (codes x0 x1) x2 (scales x0 x1) x3 x4)
            ∗ owns (c : Thread nD τ) arg7 fullShare (codes x0 x1)
            ∗ owns (c : Thread nD τ) arg8 fullShare (scales x0 x1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole _ _ _ _ (by decide) _).trans ?_
    refine pay3_congr ?_ (load_whole _ _ _ _ (by decide)) ?_ (load_whole _ _ _ _ (by decide)) (load_whole _ _ _ _ (by decide))
    · exact (View.readCov_unit_lit _ _ _ (by decide)).trans rfl
    · exact (View.readCov_unit_lit _ _ _ (by decide)).trans rfl
  isplitl [H6]
  · iexists _; isplitr
    swap; · iexact H6
    ipureintro
    exact (read_store_whole _ _ _ _ (by decide) _).trans rfl
  iexists _; isplitr
  swap; · iexact H7
  ipureintro
  exact (read_store_whole _ _ _ _ (by decide) _).trans rfl

-- the proof term of the run is large
set_option maxHeartbeats 1000000 in
/-- The body at any later grid point: it reads the codes `x6` and the scales `x7` left in the resident blocks,
    leaves them as they were, and stores the block of the output they give. -/
theorem run_later (c : Dev nD) (i : grid0.Coords) (arg1 : Memref sig .tc .vmem S16x4096 .bf16) (harg1 : arg1.IsWhole)
    (arg2 : Memref sig .tc .vmem S128x128 .f32) (harg2 : arg2.IsWhole) (arg3 : Memref sig .tc .vmem S4096x1024 .i8) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S16x1024 .bf16) (harg6 : arg6.IsWhole) (arg7 : Memref sig .tc .vmem S16x4096 .i8) (harg7 : arg7.IsWhole)
    (arg8 : Memref sig .tc .vmem S16x1 .f32) (harg8 : arg8.IsWhole) (hc0 : ¬k0_cond1 i = 1#1)
    (x0 : Vec F S16x4096 .bf16) (x1 : Vec F S128x128 .f32) (x2 : Vec F S4096x1024 .i8) (x3 : Vec F S1x1024 .f32) (x4 : Vec F S1x1024 .f32)
    (x6 : Vec F S16x4096 .i8) (x7 : Vec F S16x1 .f32) (E : Set ℕ) (K : PUnit → sProp 𝕄) :
    iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare x6
            ∗ owns (c : Thread nD τ) arg8 fullShare x7
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k0_pay3 x6 x2 x7 x3 x4)
            ∗ owns (c : Thread nD τ) arg7 fullShare x6
            ∗ owns (c : Thread nD τ) arg8 fullShare x7) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole _ _ _ _ (by decide) _).trans ?_
    exact pay3_congr (load_whole _ _ _ _ (by decide)) (load_whole _ _ _ _ (by decide)) (load_whole _ _ _ _ (by decide))
      (load_whole _ _ _ _ (by decide)) (load_whole _ _ _ _ (by decide))
  isplitl [H6]
  · iexists f6; isplitr; · ipureintro; rfl
    iexact H6
  iexists f7; isplitr; · ipureintro; rfl
  iexact H7

end Cert.KernelIdeal.Hand

end
-- ==== Proof.KernelFrame.lean ====
module

public import proofs.«01_k».proof.Proof.KernelRuns
public import Idealize.ShloMosaic.Lib.Pipeline.TableIdle
public import Idealize.ShloMosaic.Lib.Claim

/-! # The kernel's run, its outputs named

The codes and the scales live in two resident output blocks: the first grid point stores them, every later
point reads them and leaves them, and the last point's write-back carries them to memory. So the proof data
says that these blocks hold the same codes and scales after every point; the output's block holds at each point
the product of the codes with that point's weight columns. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first grid point. -/
abbrev pt0 : Fin cfg0.N := ⟨0, by rw [show cfg0.N = 28 from N_0]; decide⟩

/-- A grid point's number is below 28. -/
theorem val_lt (t : Fin cfg0.N) : t.val < 28 := lt_of_lt_of_eq t.isLt (show cfg0.N = 28 from N_0)

/-- The body's condition holds at the first point only. -/
theorem cond_iff : ∀ t : Fin cfg0.N, k0_cond1 (grid0.coords t) = 1#1 ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [k0_cond1, e0]
    word_cmp
   : ∀ t : Fin grid0.N, k0_cond1 (grid0.coords t) = 1#1 ↔ t.val % 28 = 0)

/-- At the first point the resident blocks are stored. -/
theorem idle6_first (t : Fin cfg0.N) (h : t.val % 28 = 0) : cfg0.idle 6 (grid0.coords t) = false := by
  show (!(k0_cond1 (grid0.coords t) == 1#1)) = false
  rw [(cond_iff t).mpr h]; rfl
theorem idle7_first (t : Fin cfg0.N) (h : t.val % 28 = 0) : cfg0.idle 7 (grid0.coords t) = false := idle6_first t h

/-- At a later point they are not. -/
theorem idle6_later (t : Fin cfg0.N) (h : ¬t.val % 28 = 0) : cfg0.idle 6 (grid0.coords t) = true := by
  show (!(k0_cond1 (grid0.coords t) == 1#1)) = true
  rw [Bool.not_eq_true', beq_eq_false_iff_ne]
  exact fun e => h ((cond_iff t).mp e)
theorem idle7_later (t : Fin cfg0.N) (h : ¬t.val % 28 = 0) : cfg0.idle 7 (grid0.coords t) = true := idle6_later t h

/-- After the first point the resident blocks hold what was stored: they are fresh at the first point alone. -/
theorem fresh6 : ∀ n : ℕ, n + 1 < cfg0.N → cfg0.fresh 6 (n + 1) = false
  | 0, h => by
    rw [Cfg.fresh_succ cfg0 6 0 (Nat.lt_of_succ_lt h), idle6_first _ rfl, Bool.false_and, Bool.or_false, Bool.eq_false_iff]
    exact fun e => absurd ((flush0_6 _).mp e) (by show ¬0 % 28 = 27; decide)
  | n + 1, h => by
    have hN : n + 2 < 28 := lt_of_lt_of_eq h (show cfg0.N = 28 from N_0)
    rw [Cfg.fresh_succ cfg0 6 (n + 1) (Nat.lt_of_succ_lt h), fresh6 n (Nat.lt_of_succ_lt h), Bool.and_false, Bool.or_false, Bool.eq_false_iff]
    exact fun e => absurd ((flush0_6 _).mp e) (by show ¬(n + 1) % 28 = 27; omega)
theorem fresh7 : ∀ n : ℕ, n + 1 < cfg0.N → cfg0.fresh 7 (n + 1) = false
  | 0, h => by
    rw [Cfg.fresh_succ cfg0 7 0 (Nat.lt_of_succ_lt h), idle7_first _ rfl, Bool.false_and, Bool.or_false, Bool.eq_false_iff]
    exact fun e => absurd ((flush0_7 _).mp e) (by show ¬0 % 28 = 27; decide)
  | n + 1, h => by
    have hN : n + 2 < 28 := lt_of_lt_of_eq h (show cfg0.N = 28 from N_0)
    rw [Cfg.fresh_succ cfg0 7 (n + 1) (Nat.lt_of_succ_lt h), fresh7 n (Nat.lt_of_succ_lt h), Bool.and_false, Bool.or_false, Bool.eq_false_iff]
    exact fun e => absurd ((flush0_7 _).mp e) (by show ¬(n + 1) % 28 = 27; omega)

/-! ## The proof data -/

/-- The codes of core `c`'s activations: what the first point computes from the staged operands. -/
def codesOf (c : Dev nD) : Vec F S16x4096 .i8 := codes (iblk m c 0 pt0) (iblk m c 1 pt0)

/-- Their scales. -/
def scalesOf (c : Dev nD) : Vec F S16x1 .f32 := scales (iblk m c 0 pt0) (iblk m c 1 pt0)

/-- The output's block at point `t`. -/
def blockOf (c : Dev nD) (t : Fin cfg0.N) : Vec F S16x1024 .bf16 :=
  k0_pay3 (codesOf m c) (iblk m c 2 t) (scalesOf m c) (iblk m c 3 t) (iblk m c 4 t)

/-- The proof data of the one pipeline on core `c`: the arrays as the region finds them; after the body at point `t`
    each input's buffer at its block, the output's at `blockOf`, the resident ones at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOf m c t
    | ⟨6, _⟩ => codesOf m c
    | ⟨7, _⟩ => scalesOf m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockOf m c t := by dsimp only [dats]
theorem after_6 (c : Dev nD) (t : Fin cfg0.N) : (dats m 0 c).after 6 t = codesOf m c := by dsimp only [dats]
theorem after_7 (c : Dev nD) (t : Fin cfg0.N) : (dats m 0 c).after 7 t = scalesOf m c := by dsimp only [dats]

/-! Each input's buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later point the resident block holds the codes. -/
theorem before_6 (c : Dev nD) (t : Fin cfg0.N) (h : ¬t.val % 28 = 0) (d) : (dats m 0 c).before 6 t d = codesOf m c := by
  have hN := val_lt t
  obtain ⟨n, hn⟩ : ∃ n, t.val = n + 1 := ⟨t.val - 1, by omega⟩
  have hf : cfg0.fresh 6 t.val = false := by rw [hn]; exact fresh6 n (hn ▸ t.isLt)
  rw [(dats m 0 c).before_out_traj 6 rfl (fun _ _ => rfl) (fun s _ _ _ => by rw [after_6, after_6]) t.val t rfl d,
    hf, if_neg Bool.false_ne_true, after_6]

/-- At a later point the resident block holds the scales. -/
theorem before_7 (c : Dev nD) (t : Fin cfg0.N) (h : ¬t.val % 28 = 0) (d) : (dats m 0 c).before 7 t d = scalesOf m c := by
  have hN := val_lt t
  obtain ⟨n, hn⟩ : ∃ n, t.val = n + 1 := ⟨t.val - 1, by omega⟩
  have hf : cfg0.fresh 7 t.val = false := by rw [hn]; exact fresh7 n (hn ▸ t.isLt)
  rw [(dats m 0 c).before_out_traj 7 rfl (fun _ _ => rfl) (fun s _ _ _ => by rw [after_7, after_7]) t.val t rfl d,
    hf, if_neg Bool.false_ne_true, after_7]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t)

/-- The resident block with the codes in it is what the body must leave: at the first point because it stored them, at a
    later one because it found them there, and at the last because they are what is written back. -/
theorem leaves_6 (c : Dev nD) (t : Fin cfg0.N) :
    owns (c : Thread nD τ) (st0_6 t) fullShare (codesOf m c) ⊢ ((dats m 0 c).leavesExact 6 t : sProp 𝕄) := by
  by_cases h0 : t.val % 28 = 0
  · unfold Dat.leavesExact
    rw [idle6_first t h0, after_6]
  · cases hf : (cfg0.win 6).flush t
    · rw [(dats m 0 c).leavesExact_idle 6 t (idle6_later t h0) hf]
      simp only [before_6 m c t h0]
      iintro H
      iexists (fun _ => Classical.arbitrary _)
      iexact H
    · unfold Dat.leavesExact
      rw [idle6_later t h0, hf, after_6]

/-- The same for the scales. -/
theorem leaves_7 (c : Dev nD) (t : Fin cfg0.N) :
    owns (c : Thread nD τ) (st0_7 t) fullShare (scalesOf m c) ⊢ ((dats m 0 c).leavesExact 7 t : sProp 𝕄) := by
  by_cases h0 : t.val % 28 = 0
  · unfold Dat.leavesExact
    rw [idle7_first t h0, after_7]
  · cases hf : (cfg0.win 7).flush t
    · rw [(dats m 0 c).leavesExact_idle 7 t (idle7_later t h0) hf]
      simp only [before_7 m c t h0]
      iintro H
      iexists (fun _ => Classical.arbitrary _)
      iexact H
    · unfold Dat.leavesExact
      rw [idle7_later t h0, hf, after_7]

set_option maxHeartbeats 1600000 in
/-- The body at any point: the first point by `run_first`, a later one by `run_later` at the codes and the scales its
    resident blocks hold; the invariant passes through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have hN := val_lt t
  by_cases h0 : t.val % 28 = 0
  · obtain rfl : t = pt0 := Fin.ext (by show t.val = 0; omega)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords pt0) _ _ _ _ _ _ _ _ _ _ _ _ _ _ _ _ ((cond_iff pt0).mpr h0)
      (iblk m c 0 pt0) (iblk m c 1 pt0) (iblk m c 2 pt0) (iblk m c 3 pt0) (iblk m c 4 pt0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c pt0)
      iexact H6
    iapply (leaves_7 m c pt0)
    iexact H7
  · simp only [before_6 m c t h0, before_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ (fun h => h0 ((cond_iff t).mp h))
      (iblk m c 0 t) (iblk m c 1 t) (iblk m c 2 t) (iblk m c 3 t) (iblk m c 4 t) (codesOf m c) (scalesOf m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c t)
      iexact H6
    iapply (leaves_7 m c t)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the library theorem's implicit arguments are found by unifying its conclusion with this one, which takes unfolding
-- plain definitions in a metavariable's type
set_option backward.isDefEq.respectTransparency.types false in
set_option maxHeartbeats 800000 in
/-- The launch: every array of the pipeline ends at what the proof data computes, every other buffer as the region found
    it, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelOperands.lean ====
module

public import proofs.«01_k».proof.Proof.KernelFrame
public import Idealize.ShloMosaic.Lib.StableHlo.RunRead
public import Idealize.ShloMosaic.Lib.Claim

/-! # What the kernel's operands hold when the grid starts

The host builds the Hadamard matrix by Sylvester's doubling and reshapes the activations, the weight scales and the bias. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo

variable {F : FTy → Type} [FloatOps F]

/-! ## The Hadamard matrix -/

/-- The one-by-one matrix that Sylvester's construction starts from. -/
def had1 : FVec F S1x1 .f32 := broadcastInDim S1x1 ![] bcast_S_S1x1 (constant S_ .f32 0x3F800000#32)

/-- The block matrix [[h, h], [h, g]] of four blocks of size 1. -/
def blocks2 (h g : FVec F S1x1 .f32) : FVec F S2x2 .f32 :=
  concatenate S2x2 0
    [⟨S1x2, concatenate S1x2 1 [⟨S1x1, h⟩, ⟨S1x1, h⟩] concatenates_S1x1_S1x1_S1x2_d1⟩,
     ⟨S1x2, concatenate S1x2 1 [⟨S1x1, h⟩, ⟨S1x1, g⟩] concatenates_S1x1_S1x1_S1x2_d1⟩]
    concatenates_S1x2_S1x2_S2x2_d0

/-- Sylvester's step from 1 to 2: the block matrix [[h, h], [h, -h]]. -/
def had2 (h : FVec F S1x1 .f32) : FVec F S2x2 .f32 := blocks2 h (Host.negf h)

/-- The block matrix [[h, h], [h, g]] of four blocks of size 2. -/
def blocks4 (h g : FVec F S2x2 .f32) : FVec F S4x4 .f32 :=
  concatenate S4x4 0
    [⟨S2x4, concatenate S2x4 1 [⟨S2x2, h⟩, ⟨S2x2, h⟩] concatenates_S2x2_S2x2_S2x4_d1⟩,
     ⟨S2x4, concatenate S2x4 1 [⟨S2x2, h⟩, ⟨S2x2, g⟩] concatenates_S2x2_S2x2_S2x4_d1⟩]
    concatenates_S2x4_S2x4_S4x4_d0

/-- Sylvester's step from 2 to 4: the block matrix [[h, h], [h, -h]]. -/
def had4 (h : FVec F S2x2 .f32) : FVec F S4x4 .f32 := blocks4 h (Host.negf h)

/-- The block matrix [[h, h], [h, g]] of four blocks of size 4. -/
def blocks8 (h g : FVec F S4x4 .f32) : FVec F S8x8 .f32 :=
  concatenate S8x8 0
    [⟨S4x8, concatenate S4x8 1 [⟨S4x4, h⟩, ⟨S4x4, h⟩] concatenates_S4x4_S4x4_S4x8_d1⟩,
     ⟨S4x8, concatenate S4x8 1 [⟨S4x4, h⟩, ⟨S4x4, g⟩] concatenates_S4x4_S4x4_S4x8_d1⟩]
    concatenates_S4x8_S4x8_S8x8_d0

/-- Sylvester's step from 4 to 8: the block matrix [[h, h], [h, -h]]. -/
def had8 (h : FVec F S4x4 .f32) : FVec F S8x8 .f32 := blocks8 h (Host.negf h)

/-- The block matrix [[h, h], [h, g]] of four blocks of size 8. -/
def blocks16 (h g : FVec F S8x8 .f32) : FVec F S16x16 .f32 :=
  concatenate S16x16 0
    [⟨S8x16, concatenate S8x16 1 [⟨S8x8, h⟩, ⟨S8x8, h⟩] concatenates_S8x8_S8x8_S8x16_d1⟩,
     ⟨S8x16, concatenate S8x16 1 [⟨S8x8, h⟩, ⟨S8x8, g⟩] concatenates_S8x8_S8x8_S8x16_d1⟩]
    concatenates_S8x16_S8x16_S16x16_d0

/-- Sylvester's step from 8 to 16: the block matrix [[h, h], [h, -h]]. -/
def had16 (h : FVec F S8x8 .f32) : FVec F S16x16 .f32 := blocks16 h (Host.negf h)

/-- The block matrix [[h, h], [h, g]] of four blocks of size 16. -/
def blocks32 (h g : FVec F S16x16 .f32) : FVec F S32x32 .f32 :=
  concatenate S32x32 0
    [⟨S16x32, concatenate S16x32 1 [⟨S16x16, h⟩, ⟨S16x16, h⟩] concatenates_S16x16_S16x16_S16x32_d1⟩,
     ⟨S16x32, concatenate S16x32 1 [⟨S16x16, h⟩, ⟨S16x16, g⟩] concatenates_S16x16_S16x16_S16x32_d1⟩]
    concatenates_S16x32_S16x32_S32x32_d0

/-- Sylvester's step from 16 to 32: the block matrix [[h, h], [h, -h]]. -/
def had32 (h : FVec F S16x16 .f32) : FVec F S32x32 .f32 := blocks32 h (Host.negf h)

/-- The block matrix [[h, h], [h, g]] of four blocks of size 32. -/
def blocks64 (h g : FVec F S32x32 .f32) : FVec F S64x64 .f32 :=
  concatenate S64x64 0
    [⟨S32x64, concatenate S32x64 1 [⟨S32x32, h⟩, ⟨S32x32, h⟩] concatenates_S32x32_S32x32_S32x64_d1⟩,
     ⟨S32x64, concatenate S32x64 1 [⟨S32x32, h⟩, ⟨S32x32, g⟩] concatenates_S32x32_S32x32_S32x64_d1⟩]
    concatenates_S32x64_S32x64_S64x64_d0

/-- Sylvester's step from 32 to 64: the block matrix [[h, h], [h, -h]]. -/
def had64 (h : FVec F S32x32 .f32) : FVec F S64x64 .f32 := blocks64 h (Host.negf h)

/-- The block matrix [[h, h], [h, g]] of four blocks of size 64. -/
def blocks128 (h g : FVec F S64x64 .f32) : FVec F S128x128 .f32 :=
  concatenate S128x128 0
    [⟨S64x128, concatenate S64x128 1 [⟨S64x64, h⟩, ⟨S64x64, h⟩] concatenates_S64x64_S64x64_S64x128_d1⟩,
     ⟨S64x128, concatenate S64x128 1 [⟨S64x64, h⟩, ⟨S64x64, g⟩] concatenates_S64x64_S64x64_S64x128_d1⟩]
    concatenates_S64x128_S64x128_S128x128_d0

/-- Sylvester's step from 64 to 128: the block matrix [[h, h], [h, -h]]. -/
def had128 (h : FVec F S64x64 .f32) : FVec F S128x128 .f32 := blocks128 h (Host.negf h)

/-- The normalised 128-by-128 Hadamard matrix, as the host computes it. -/
def hadamard : FVec F S128x128 .f32 :=
  mulf (had128 (had64 (had32 (had16 (had8 (had4 (had2 had1)))))))
    (broadcastInDim S128x128 ![] bcast_S_S128x128 (constant S_ .f32 0x3DB504F3#32))

/-! ## The construction, one doubling at a time -/

variable (W : Valuation τ sig (Elt F))

/-- The first host operations leave the one-by-one matrix and its negation. -/
theorem level0 : (after hostOps0 W (Proc.devRef .tc main_v1) : FVec F S1x1 .f32) = had1
    ∧ (after hostOps0 W (Proc.devRef .tc main_v2) : FVec F S1x1 .f32) = Host.negf had1 := by
  constructor <;> after_reads_simp <;> rfl

/-- From the matrix of size 1 and its negation, the host's next operations compute the matrix of size 2 and its negation. -/
theorem level1 (h : FVec F S1x1 .f32) (h1 : W (Proc.devRef .tc main_v1) = h) (h2 : W (Proc.devRef .tc main_v2) = Host.negf h) :
    (after hostOps0_2 (after hostOps0_1 W) (Proc.devRef .tc main_v3) : FVec F S2x2 .f32) = had2 h
    ∧ (after hostOps0_2 (after hostOps0_1 W) (Proc.devRef .tc main_v4) : FVec F S2x2 .f32) = Host.negf (had2 h) := by
  have e : (after hostOps0_1 W (Proc.devRef .tc main_v3) : FVec F S2x2 .f32)
      = blocks2 (W (Proc.devRef .tc main_v1)) (W (Proc.devRef .tc main_v2)) := rfl
  rw [h1, h2] at e
  generalize after hostOps0_1 W = U at e ⊢
  constructor <;> after_reads_simp <;> rw [e] <;> rfl

/-- From the matrix of size 2 and its negation, the host's next operations compute the matrix of size 4 and its negation. -/
theorem level2 (h : FVec F S2x2 .f32) (h1 : W (Proc.devRef .tc main_v3) = h) (h2 : W (Proc.devRef .tc main_v4) = Host.negf h) :
    (after hostOps0_4 (after hostOps0_3 W) (Proc.devRef .tc main_v5) : FVec F S4x4 .f32) = had4 h
    ∧ (after hostOps0_4 (after hostOps0_3 W) (Proc.devRef .tc main_v6) : FVec F S4x4 .f32) = Host.negf (had4 h) := by
  have e : (after hostOps0_3 W (Proc.devRef .tc main_v5) : FVec F S4x4 .f32)
      = blocks4 (W (Proc.devRef .tc main_v3)) (W (Proc.devRef .tc main_v4)) := rfl
  rw [h1, h2] at e
  generalize after hostOps0_3 W = U at e ⊢
  constructor <;> after_reads_simp <;> rw [e] <;> rfl

/-- From the matrix of size 4 and its negation, the host's next operations compute the matrix of size 8 and its negation. -/
theorem level3 (h : FVec F S4x4 .f32) (h1 : W (Proc.devRef .tc main_v5) = h) (h2 : W (Proc.devRef .tc main_v6) = Host.negf h) :
    (after hostOps0_6 (after hostOps0_5 W) (Proc.devRef .tc main_v7) : FVec F S8x8 .f32) = had8 h
    ∧ (after hostOps0_6 (after hostOps0_5 W) (Proc.devRef .tc main_v8) : FVec F S8x8 .f32) = Host.negf (had8 h) := by
  have e : (after hostOps0_5 W (Proc.devRef .tc main_v7) : FVec F S8x8 .f32)
      = blocks8 (W (Proc.devRef .tc main_v5)) (W (Proc.devRef .tc main_v6)) := rfl
  rw [h1, h2] at e
  generalize after hostOps0_5 W = U at e ⊢
  constructor <;> after_reads_simp <;> rw [e] <;> rfl

/-- From the matrix of size 8 and its negation, the host's next operations compute the matrix of size 16 and its negation. -/
theorem level4 (h : FVec F S8x8 .f32) (h1 : W (Proc.devRef .tc main_v7) = h) (h2 : W (Proc.devRef .tc main_v8) = Host.negf h) :
    (after hostOps0_8 (after hostOps0_7 W) (Proc.devRef .tc main_v9) : FVec F S16x16 .f32) = had16 h
    ∧ (after hostOps0_8 (after hostOps0_7 W) (Proc.devRef .tc main_v10) : FVec F S16x16 .f32) = Host.negf (had16 h) := by
  have e : (after hostOps0_7 W (Proc.devRef .tc main_v9) : FVec F S16x16 .f32)
      = blocks16 (W (Proc.devRef .tc main_v7)) (W (Proc.devRef .tc main_v8)) := rfl
  rw [h1, h2] at e
  generalize after hostOps0_7 W = U at e ⊢
  constructor <;> after_reads_simp <;> rw [e] <;> rfl

/-- From the matrix of size 16 and its negation, the host's next operations compute the matrix of size 32 and its negation. -/
theorem level5 (h : FVec F S16x16 .f32) (h1 : W (Proc.devRef .tc main_v9) = h) (h2 : W (Proc.devRef .tc main_v10) = Host.negf h) :
    (after hostOps0_10 (after hostOps0_9 W) (Proc.devRef .tc main_v11) : FVec F S32x32 .f32) = had32 h
    ∧ (after hostOps0_10 (after hostOps0_9 W) (Proc.devRef .tc main_v12) : FVec F S32x32 .f32) = Host.negf (had32 h) := by
  have e : (after hostOps0_9 W (Proc.devRef .tc main_v11) : FVec F S32x32 .f32)
      = blocks32 (W (Proc.devRef .tc main_v9)) (W (Proc.devRef .tc main_v10)) := rfl
  rw [h1, h2] at e
  generalize after hostOps0_9 W = U at e ⊢
  constructor <;> after_reads_simp <;> rw [e] <;> rfl

/-- From the matrix of size 32 and its negation, the host's next operations compute the matrix of size 64 and its negation. -/
theorem level6 (h : FVec F S32x32 .f32) (h1 : W (Proc.devRef .tc main_v11) = h) (h2 : W (Proc.devRef .tc main_v12) = Host.negf h) :
    (after hostOps0_12 (after hostOps0_11 W) (Proc.devRef .tc main_v13) : FVec F S64x64 .f32) = had64 h
    ∧ (after hostOps0_12 (after hostOps0_11 W) (Proc.devRef .tc main_v14) : FVec F S64x64 .f32) = Host.negf (had64 h) := by
  have e : (after hostOps0_11 W (Proc.devRef .tc main_v13) : FVec F S64x64 .f32)
      = blocks64 (W (Proc.devRef .tc main_v11)) (W (Proc.devRef .tc main_v12)) := rfl
  rw [h1, h2] at e
  generalize after hostOps0_11 W = U at e ⊢
  constructor <;> after_reads_simp <;> rw [e] <;> rfl

/-- The last doubling. -/
theorem level7 (h : FVec F S64x64 .f32) (h1 : W (Proc.devRef .tc main_v13) = h) (h2 : W (Proc.devRef .tc main_v14) = Host.negf h) :
    (after hostOps0_13 W (Proc.devRef .tc main_v15) : FVec F S128x128 .f32) = had128 h := by
  have e : (after hostOps0_13 W (Proc.devRef .tc main_v15) : FVec F S128x128 .f32)
      = blocks128 (W (Proc.devRef .tc main_v13)) (W (Proc.devRef .tc main_v14)) := rfl
  rw [h1, h2] at e
  exact e

/-- All seven doublings. -/
theorem levels : (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 W))))))))))))) (Proc.devRef .tc main_v15) : FVec F S128x128 .f32)
    = had128 (had64 (had32 (had16 (had8 (had4 (had2 had1)))))) := by
  have l0 := level0 (F := F) W
  have l1 := level1 _ _ l0.1 l0.2
  have l2 := level2 _ _ l1.1 l1.2
  have l3 := level3 _ _ l2.1 l2.2
  have l4 := level4 _ _ l3.1 l3.2
  have l5 := level5 _ _ l4.1 l4.2
  have l6 := level6 _ _ l5.1 l5.2
  exact level7 _ _ l6.1 l6.2

/-! ## The operands -/

variable (m : (ℓ : Loc nD τ sig) → Buf (Elt F) ℓ)

/-- The activations: the argument, its middle axis dropped. -/
theorem V_v0 (c : Dev nD) : V m c main_v0
    = shapeCast S16x4096 (m ((c : Thread nD τ).loc main_arg0)) shapeCasts_S16x1x4096_S16x4096 := by
  unfold V
  after_reads_simp
  rfl

/-- The rotation's matrix. -/
theorem V_v17 (c : Dev nD) : V m c main_v17 = hadamard := by
  have h := levels (F := F) (fun b => m (c, b))
  show after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b))))))))))))))) (Proc.devRef .tc main_v17) = _
  generalize after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b)))))))))))))) = W at h ⊢
  after_reads_simp
  rw [h]
  rfl

/-- The weight scales, as one row. -/
theorem V_v18 (c : Dev nD) : V m c main_v18
    = shapeCast S1x28672 (m ((c : Thread nD τ).loc main_arg2)) shapeCasts_S28672_S1x28672 := by
  unfold V
  after_reads_simp
  rfl

/-- The bias, as one row. -/
theorem V_v19 (c : Dev nD) : V m c main_v19
    = shapeCast S1x28672 (m ((c : Thread nD τ).loc main_arg3)) shapeCasts_S28672_S1x28672 := by
  unfold V
  after_reads_simp
  rfl

end Cert.KernelIdeal.Hand

end
-- ==== Proof.RefOperands.lean ====
module

public import proofs.«01_k».proof.Proof.Gen.ReferenceIdeal.Value
public import Idealize.ShloMosaic.Lib.StableHlo.RunRead
public import Idealize.ShloMosaic.Lib.Claim

/-! # What the reference's operands hold when its kernel starts

The host builds the Hadamard matrix by Sylvester's doubling, rotates the activations by one product over all the groups, and
computes the scale of each token's row. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-! ## The Hadamard matrix -/

/-- The one-by-one matrix that Sylvester's construction starts from. -/
def had1 : FVec F S1x1 .f32 := broadcastInDim S1x1 ![] bcast_S_S1x1 (constant S_ .f32 0x3F800000#32)

/-- The block matrix [[h, h], [h, g]] of four blocks of size 1. -/
def blocks2 (h g : FVec F S1x1 .f32) : FVec F S2x2 .f32 :=
  concatenate S2x2 0
    [⟨S1x2, concatenate S1x2 1 [⟨S1x1, h⟩, ⟨S1x1, h⟩] concatenates_S1x1_S1x1_S1x2_d1⟩,
     ⟨S1x2, concatenate S1x2 1 [⟨S1x1, h⟩, ⟨S1x1, g⟩] concatenates_S1x1_S1x1_S1x2_d1⟩]
    concatenates_S1x2_S1x2_S2x2_d0

/-- Sylvester's step from 1 to 2: the block matrix [[h, h], [h, -h]]. -/
def had2 (h : FVec F S1x1 .f32) : FVec F S2x2 .f32 := blocks2 h (Host.negf h)

/-- The block matrix [[h, h], [h, g]] of four blocks of size 2. -/
def blocks4 (h g : FVec F S2x2 .f32) : FVec F S4x4 .f32 :=
  concatenate S4x4 0
    [⟨S2x4, concatenate S2x4 1 [⟨S2x2, h⟩, ⟨S2x2, h⟩] concatenates_S2x2_S2x2_S2x4_d1⟩,
     ⟨S2x4, concatenate S2x4 1 [⟨S2x2, h⟩, ⟨S2x2, g⟩] concatenates_S2x2_S2x2_S2x4_d1⟩]
    concatenates_S2x4_S2x4_S4x4_d0

/-- Sylvester's step from 2 to 4: the block matrix [[h, h], [h, -h]]. -/
def had4 (h : FVec F S2x2 .f32) : FVec F S4x4 .f32 := blocks4 h (Host.negf h)

/-- The block matrix [[h, h], [h, g]] of four blocks of size 4. -/
def blocks8 (h g : FVec F S4x4 .f32) : FVec F S8x8 .f32 :=
  concatenate S8x8 0
    [⟨S4x8, concatenate S4x8 1 [⟨S4x4, h⟩, ⟨S4x4, h⟩] concatenates_S4x4_S4x4_S4x8_d1⟩,
     ⟨S4x8, concatenate S4x8 1 [⟨S4x4, h⟩, ⟨S4x4, g⟩] concatenates_S4x4_S4x4_S4x8_d1⟩]
    concatenates_S4x8_S4x8_S8x8_d0

/-- Sylvester's step from 4 to 8: the block matrix [[h, h], [h, -h]]. -/
def had8 (h : FVec F S4x4 .f32) : FVec F S8x8 .f32 := blocks8 h (Host.negf h)

/-- The block matrix [[h, h], [h, g]] of four blocks of size 8. -/
def blocks16 (h g : FVec F S8x8 .f32) : FVec F S16x16 .f32 :=
  concatenate S16x16 0
    [⟨S8x16, concatenate S8x16 1 [⟨S8x8, h⟩, ⟨S8x8, h⟩] concatenates_S8x8_S8x8_S8x16_d1⟩,
     ⟨S8x16, concatenate S8x16 1 [⟨S8x8, h⟩, ⟨S8x8, g⟩] concatenates_S8x8_S8x8_S8x16_d1⟩]
    concatenates_S8x16_S8x16_S16x16_d0

/-- Sylvester's step from 8 to 16: the block matrix [[h, h], [h, -h]]. -/
def had16 (h : FVec F S8x8 .f32) : FVec F S16x16 .f32 := blocks16 h (Host.negf h)

/-- The block matrix [[h, h], [h, g]] of four blocks of size 16. -/
def blocks32 (h g : FVec F S16x16 .f32) : FVec F S32x32 .f32 :=
  concatenate S32x32 0
    [⟨S16x32, concatenate S16x32 1 [⟨S16x16, h⟩, ⟨S16x16, h⟩] concatenates_S16x16_S16x16_S16x32_d1⟩,
     ⟨S16x32, concatenate S16x32 1 [⟨S16x16, h⟩, ⟨S16x16, g⟩] concatenates_S16x16_S16x16_S16x32_d1⟩]
    concatenates_S16x32_S16x32_S32x32_d0

/-- Sylvester's step from 16 to 32: the block matrix [[h, h], [h, -h]]. -/
def had32 (h : FVec F S16x16 .f32) : FVec F S32x32 .f32 := blocks32 h (Host.negf h)

/-- The block matrix [[h, h], [h, g]] of four blocks of size 32. -/
def blocks64 (h g : FVec F S32x32 .f32) : FVec F S64x64 .f32 :=
  concatenate S64x64 0
    [⟨S32x64, concatenate S32x64 1 [⟨S32x32, h⟩, ⟨S32x32, h⟩] concatenates_S32x32_S32x32_S32x64_d1⟩,
     ⟨S32x64, concatenate S32x64 1 [⟨S32x32, h⟩, ⟨S32x32, g⟩] concatenates_S32x32_S32x32_S32x64_d1⟩]
    concatenates_S32x64_S32x64_S64x64_d0

/-- Sylvester's step from 32 to 64: the block matrix [[h, h], [h, -h]]. -/
def had64 (h : FVec F S32x32 .f32) : FVec F S64x64 .f32 := blocks64 h (Host.negf h)

/-- The block matrix [[h, h], [h, g]] of four blocks of size 64. -/
def blocks128 (h g : FVec F S64x64 .f32) : FVec F S128x128 .f32 :=
  concatenate S128x128 0
    [⟨S64x128, concatenate S64x128 1 [⟨S64x64, h⟩, ⟨S64x64, h⟩] concatenates_S64x64_S64x64_S64x128_d1⟩,
     ⟨S64x128, concatenate S64x128 1 [⟨S64x64, h⟩, ⟨S64x64, g⟩] concatenates_S64x64_S64x64_S64x128_d1⟩]
    concatenates_S64x128_S64x128_S128x128_d0

/-- Sylvester's step from 64 to 128: the block matrix [[h, h], [h, -h]]. -/
def had128 (h : FVec F S64x64 .f32) : FVec F S128x128 .f32 := blocks128 h (Host.negf h)

/-- The normalised 128-by-128 Hadamard matrix, as the host computes it. -/
def hadamard : FVec F S128x128 .f32 :=
  mulf (had128 (had64 (had32 (had16 (had8 (had4 (had2 had1)))))))
    (broadcastInDim S128x128 ![] bcast_S_S128x128 (constant S_ .f32 0x3DB504F3#32))

/-! ## The construction, one doubling at a time -/

variable (W : Valuation τ sig (Elt F))

/-- The first host operations leave the one-by-one matrix and its negation. -/
theorem level0 : (after hostOps0 W (Proc.devRef .tc main_v1) : FVec F S1x1 .f32) = had1
    ∧ (after hostOps0 W (Proc.devRef .tc main_v2) : FVec F S1x1 .f32) = Host.negf had1 := by
  constructor <;> after_reads_simp <;> rfl

/-- From the matrix of size 1 and its negation, the host's next operations compute the matrix of size 2 and its negation. -/
theorem level1 (h : FVec F S1x1 .f32) (h1 : W (Proc.devRef .tc main_v1) = h) (h2 : W (Proc.devRef .tc main_v2) = Host.negf h) :
    (after hostOps0_2 (after hostOps0_1 W) (Proc.devRef .tc main_v3) : FVec F S2x2 .f32) = had2 h
    ∧ (after hostOps0_2 (after hostOps0_1 W) (Proc.devRef .tc main_v4) : FVec F S2x2 .f32) = Host.negf (had2 h) := by
  have e : (after hostOps0_1 W (Proc.devRef .tc main_v3) : FVec F S2x2 .f32)
      = blocks2 (W (Proc.devRef .tc main_v1)) (W (Proc.devRef .tc main_v2)) := rfl
  rw [h1, h2] at e
  generalize after hostOps0_1 W = U at e ⊢
  constructor <;> after_reads_simp <;> rw [e] <;> rfl

/-- From the matrix of size 2 and its negation, the host's next operations compute the matrix of size 4 and its negation. -/
theorem level2 (h : FVec F S2x2 .f32) (h1 : W (Proc.devRef .tc main_v3) = h) (h2 : W (Proc.devRef .tc main_v4) = Host.negf h) :
    (after hostOps0_4 (after hostOps0_3 W) (Proc.devRef .tc main_v5) : FVec F S4x4 .f32) = had4 h
    ∧ (after hostOps0_4 (after hostOps0_3 W) (Proc.devRef .tc main_v6) : FVec F S4x4 .f32) = Host.negf (had4 h) := by
  have e : (after hostOps0_3 W (Proc.devRef .tc main_v5) : FVec F S4x4 .f32)
      = blocks4 (W (Proc.devRef .tc main_v3)) (W (Proc.devRef .tc main_v4)) := rfl
  rw [h1, h2] at e
  generalize after hostOps0_3 W = U at e ⊢
  constructor <;> after_reads_simp <;> rw [e] <;> rfl

/-- From the matrix of size 4 and its negation, the host's next operations compute the matrix of size 8 and its negation. -/
theorem level3 (h : FVec F S4x4 .f32) (h1 : W (Proc.devRef .tc main_v5) = h) (h2 : W (Proc.devRef .tc main_v6) = Host.negf h) :
    (after hostOps0_6 (after hostOps0_5 W) (Proc.devRef .tc main_v7) : FVec F S8x8 .f32) = had8 h
    ∧ (after hostOps0_6 (after hostOps0_5 W) (Proc.devRef .tc main_v8) : FVec F S8x8 .f32) = Host.negf (had8 h) := by
  have e : (after hostOps0_5 W (Proc.devRef .tc main_v7) : FVec F S8x8 .f32)
      = blocks8 (W (Proc.devRef .tc main_v5)) (W (Proc.devRef .tc main_v6)) := rfl
  rw [h1, h2] at e
  generalize after hostOps0_5 W = U at e ⊢
  constructor <;> after_reads_simp <;> rw [e] <;> rfl

/-- From the matrix of size 8 and its negation, the host's next operations compute the matrix of size 16 and its negation. -/
theorem level4 (h : FVec F S8x8 .f32) (h1 : W (Proc.devRef .tc main_v7) = h) (h2 : W (Proc.devRef .tc main_v8) = Host.negf h) :
    (after hostOps0_8 (after hostOps0_7 W) (Proc.devRef .tc main_v9) : FVec F S16x16 .f32) = had16 h
    ∧ (after hostOps0_8 (after hostOps0_7 W) (Proc.devRef .tc main_v10) : FVec F S16x16 .f32) = Host.negf (had16 h) := by
  have e : (after hostOps0_7 W (Proc.devRef .tc main_v9) : FVec F S16x16 .f32)
      = blocks16 (W (Proc.devRef .tc main_v7)) (W (Proc.devRef .tc main_v8)) := rfl
  rw [h1, h2] at e
  generalize after hostOps0_7 W = U at e ⊢
  constructor <;> after_reads_simp <;> rw [e] <;> rfl

/-- From the matrix of size 16 and its negation, the host's next operations compute the matrix of size 32 and its negation. -/
theorem level5 (h : FVec F S16x16 .f32) (h1 : W (Proc.devRef .tc main_v9) = h) (h2 : W (Proc.devRef .tc main_v10) = Host.negf h) :
    (after hostOps0_10 (after hostOps0_9 W) (Proc.devRef .tc main_v11) : FVec F S32x32 .f32) = had32 h
    ∧ (after hostOps0_10 (after hostOps0_9 W) (Proc.devRef .tc main_v12) : FVec F S32x32 .f32) = Host.negf (had32 h) := by
  have e : (after hostOps0_9 W (Proc.devRef .tc main_v11) : FVec F S32x32 .f32)
      = blocks32 (W (Proc.devRef .tc main_v9)) (W (Proc.devRef .tc main_v10)) := rfl
  rw [h1, h2] at e
  generalize after hostOps0_9 W = U at e ⊢
  constructor <;> after_reads_simp <;> rw [e] <;> rfl

/-- From the matrix of size 32 and its negation, the host's next operations compute the matrix of size 64 and its negation. -/
theorem level6 (h : FVec F S32x32 .f32) (h1 : W (Proc.devRef .tc main_v11) = h) (h2 : W (Proc.devRef .tc main_v12) = Host.negf h) :
    (after hostOps0_12 (after hostOps0_11 W) (Proc.devRef .tc main_v13) : FVec F S64x64 .f32) = had64 h
    ∧ (after hostOps0_12 (after hostOps0_11 W) (Proc.devRef .tc main_v14) : FVec F S64x64 .f32) = Host.negf (had64 h) := by
  have e : (after hostOps0_11 W (Proc.devRef .tc main_v13) : FVec F S64x64 .f32)
      = blocks64 (W (Proc.devRef .tc main_v11)) (W (Proc.devRef .tc main_v12)) := rfl
  rw [h1, h2] at e
  generalize after hostOps0_11 W = U at e ⊢
  constructor <;> after_reads_simp <;> rw [e] <;> rfl

/-- The last doubling. -/
theorem level7 (h : FVec F S64x64 .f32) (h1 : W (Proc.devRef .tc main_v13) = h) (h2 : W (Proc.devRef .tc main_v14) = Host.negf h) :
    (after hostOps0_13 W (Proc.devRef .tc main_v15) : FVec F S128x128 .f32) = had128 h := by
  have e : (after hostOps0_13 W (Proc.devRef .tc main_v15) : FVec F S128x128 .f32)
      = blocks128 (W (Proc.devRef .tc main_v13)) (W (Proc.devRef .tc main_v14)) := rfl
  rw [h1, h2] at e
  exact e

/-- All seven doublings. -/
theorem levels : (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 W))))))))))))) (Proc.devRef .tc main_v15) : FVec F S128x128 .f32)
    = had128 (had64 (had32 (had16 (had8 (had4 (had2 had1)))))) := by
  have l0 := level0 (F := F) W
  have l1 := level1 _ _ l0.1 l0.2
  have l2 := level2 _ _ l1.1 l1.2
  have l3 := level3 _ _ l2.1 l2.2
  have l4 := level4 _ _ l3.1 l3.2
  have l5 := level5 _ _ l4.1 l4.2
  have l6 := level6 _ _ l5.1 l5.2
  exact level7 _ _ l6.1 l6.2

/-- The activations, widened, are not written again by the doublings. -/
theorem levels_v0 : (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 W))))))))))))) (Proc.devRef .tc main_v0) : FVec F S16x1x4096 .f32)
    = extf .f32 (W (Proc.devRef .tc main_arg0) : FVec F S16x1x4096 .bf16) bitsLt_bf16_f32 := by
  after_reads_simp

/-! ## The operands -/

/-- The rotated activations of `x`, group by group. -/
def rotated (x : FVec F S16x1x4096 .bf16) : FVec F S16x1x4096 .f32 :=
  shapeCast S16x1x4096
    (Host.dotGeneral dot_S16x1x32x128_S128x128_S16x1x32x128_3_0_012_1_n_n none
      (shapeCast S16x1x32x128 (extf .f32 x bitsLt_bf16_f32) shapeCasts_S16x1x4096_S16x1x32x128) hadamard)
    shapeCasts_S16x1x32x128_S16x1x4096

/-- The greatest magnitude in each row. -/
def amax (r : FVec F S16x1x4096 .f32) : FVec F S16x1x1 .f32 :=
  broadcastInDim S16x1x1 ![0, 1] bcast_S16x1_S16x1x1_0_1
    (Host.reduce FloatOps.maximumf (Host.absf r) (constant S_ .f32 0xFF800000#32) reducesTo_S16x1x4096_S16x1_d2 h_S_)

/-- The scale of each row: a seventh of its greatest magnitude, one where that is zero. -/
def scalesOf (a : FVec F S16x1x1 .f32) : FVec F S16x1x1 .f32 :=
  select (cmpf .oeq a (broadcastInDim S16x1x1 ![] bcast_S_S16x1x1 (constant S_ .f32 0x00000000#32)))
    (broadcastInDim S16x1x1 ![] bcast_S_S16x1x1 (constant S_ .f32 0x3F800000#32))
    (Host.divf a (broadcastInDim S16x1x1 ![] bcast_S_S16x1x1 (constant S_ .f32 0x40E00000#32)))

variable (m : (ℓ : Loc nD τ sig) → Buf (Elt F) ℓ)

/-- What the last stretches of host operations compute, from the matrix and the widened activations. -/
theorem last_v20 (h : FVec F S128x128 .f32) (x : FVec F S16x1x4096 .f32) (h15 : W (Proc.devRef .tc main_v15) = h)
    (h0 : W (Proc.devRef .tc main_v0) = x) :
    (after hostOps0_14 W (Proc.devRef .tc main_v20) : FVec F S16x1x4096 .f32)
      = shapeCast S16x1x4096
          (Host.dotGeneral dot_S16x1x32x128_S128x128_S16x1x32x128_3_0_012_1_n_n none
            (shapeCast S16x1x32x128 x shapeCasts_S16x1x4096_S16x1x32x128)
            (mulf h (broadcastInDim S128x128 ![] bcast_S_S128x128 (constant S_ .f32 0x3DB504F3#32))))
          shapeCasts_S16x1x32x128_S16x1x4096 := by
  after_reads_simp
  rw [h15, h0]
  rfl

/-- The row maxima and the scales, from what the rotation left. -/
theorem last_v28 (r : FVec F S16x1x4096 .f32) (h20 : after hostOps0_14 W (Proc.devRef .tc main_v20) = r) :
    (after hostOps0_15 (after hostOps0_14 W) (Proc.devRef .tc main_v28) : FVec F S16x1x1 .f32) = scalesOf (amax r) := by
  subst h20
  after_reads_simp
  rfl

/-- The rotation's result, when the kernel starts. -/
theorem rotated_eq (c : Dev nD) :
    (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b))))))))))))))) (Proc.devRef .tc main_v20) : FVec F S16x1x4096 .f32)
      = rotated (m ((c : Thread nD τ).loc main_arg0)) :=
  last_v20 _ _ _ (levels (F := F) fun b => m (c, b)) (levels_v0 (F := F) fun b => m (c, b))

/-- The rotated activations, their middle axis dropped. -/
theorem V_v29 (c : Dev nD) : V m c main_v29
    = shapeCast S16x4096 (rotated (m ((c : Thread nD τ).loc main_arg0))) shapeCasts_S16x1x4096_S16x4096 := by
  have h := rotated_eq m c
  show after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b))))))))))))))))) (Proc.devRef .tc main_v29) = _
  generalize after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b))))))))))))))) = U at h ⊢
  after_reads_simp
  rw [h]
  rfl

/-- The scales, their middle axis dropped. -/
theorem V_v30 (c : Dev nD) : V m c main_v30
    = shapeCast S16x1 (scalesOf (amax (rotated (m ((c : Thread nD τ).loc main_arg0))))) shapeCasts_S16x1x1_S16x1 := by
  have h := last_v28 _ _ (rotated_eq m c)
  show after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b))))))))))))))))) (Proc.devRef .tc main_v30) = _
  generalize after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 fun b => m (c, b)))))))))))))))) = U at h ⊢
  after_reads_simp
  rw [h]
  rfl

/-- The weight scales, as one row. -/
theorem V_v31 (c : Dev nD) : V m c main_v31
    = broadcastInDim S1x28672 ![1] bcast_S28672_S1x28672_1 (m ((c : Thread nD τ).loc main_arg2)) := by
  unfold V
  after_reads_simp

/-- The bias, as one row. -/
theorem V_v32 (c : Dev nD) : V m c main_v32
    = broadcastInDim S1x28672 ![1] bcast_S28672_S1x28672_1 (m ((c : Thread nD τ).loc main_arg3)) := by
  unfold V
  after_reads_simp

end Cert.ReferenceIdeal.Hand

end
-- ==== Proof.Rotation.lean ====
module

public import proofs.«01_k».proof.Proof.KernelOperands
public import proofs.«01_k».proof.Proof.RefOperands
public import Idealize.ShloMosaic.Lib.Pointwise
public import Idealize.ShloMosaic.Lib.IdealHost

/-! # The rotation: the kernel's and the reference's are one function

Both programs multiply each group of 128 activations by the Hadamard matrix. The kernel does so group by group and sets the
32 products side by side; the reference does so by one product over all the groups. Each is read here at an index, as the same
sum of 128 products. -/

@[expose] public section

set_option maxRecDepth 16384

noncomputable section

namespace Cert.KernelIdeal.Hand

open Cert.KernelIdeal Cert.KernelIdeal.Gen
open Idealize.ShloMosaic Idealize.ShloMosaic.TcCoe

/-- The rotated activation at row `r`, column `l`: the group that holds column `l`, times the matrix's column `l % 128`. -/
def rot (x : FVec Ideal S16x4096 .bf16) (h : FVec Ideal S128x128 .f32) : FVec Ideal S16x4096 .f32 := fun j =>
  ∑ k : Fin 128, x (ix2 (j 0) ⟨(j 1).val / 128 * 128 + k.val, by have := (j 1).isLt; change (j 1).val < 4096 at this; omega⟩)
    * h (ix2 k ⟨(j 1).val % 128, Nat.mod_lt _ (by decide)⟩)

/-! ## The kernel's side -/

/-- One group's product, as the body computes it. -/
def piece (x0 : Vec Ideal S16x4096 .bf16) (x1 : Vec Ideal S128x128 .f32) (off : Fin S16x4096.rank → ℕ)
    (inb : ∀ a, off a + S16x128.size a ≤ S16x4096.size a) : FVec Ideal S16x128 .f32 :=
  matmul dot_S16x128_S128x128_S16x128_1_0_0_1_n_n none
    (extf .f32 (shapeCast S16x128 (group x0 off inb) shapeCasts_S16x128_S16x128) bitsLt_bf16_f32) (k0_pay4 (hadBlock x1))
    (constant S16x128 .f32 0x00000000#32)

/-- One group's product, read at the index it has among all the columns. -/
theorem piece_eq (x0 : Vec Ideal S16x4096 .bf16) (x1 : Vec Ideal S128x128 .f32) (o : ℕ)
    (inb : ∀ a, (![0, o] : Fin S16x4096.rank → ℕ) a + S16x128.size a ≤ S16x4096.size a) (j : S16x4096.Idx) (c : ℕ) (hc : c < 128)
    (ho : o % 128 = 0) (hj : (j 1).val = o + c) :
    piece x0 x1 ![0, o] inb (ix2 (j 0) ⟨c, hc⟩) = rot x0 x1 j := by
  pointwise [piece, k0_pay4, rot]
  refine Finset.sum_congr rfl fun k _ => ?_
  refine congrArg₂ (· * ·) (congrArg x0 ?_) (congrArg x1 ?_)
  · funext a
    match a with
    | 0 => exact Fin.ext (by show 0 + 1 * (j 0).val = (j 0).val; omega)
    | 1 => exact Fin.ext (by show o + 1 * k.val = (j 1).val / 128 * 128 + k.val; omega)
  · funext a
    match a with
    | 0 => exact Fin.ext (by show 0 + 1 * k.val = k.val; omega)
    | 1 => exact Fin.ext (by show 0 + 1 * c = (j 1).val % 128; omega)

/-- The concatenation of blocks of 128 columns, read past its first block. -/
theorem step {α : Type} (j : S16x4096.Idx) (f : S16x128.Idx → α) (q : (s : Shape) × (s.Idx → α)) (xs : List ((s : Shape) × (s.Idx → α)))
    (hs : ∀ s ∈ ((⟨S16x128, f⟩ :: q :: xs : List ((s : Shape) × (s.Idx → α))).map (·.1)), s.FitsOff S16x4096 1) (c : ℕ)
    (hc : c < (axisSizes S16x4096 1 (⟨S16x128, f⟩ :: q :: xs)).sum) (v : α)
    (here : ∀ hl : c < 128, f (ix2 (j 0) ⟨c, hl⟩) = v)
    (later : 128 ≤ c → ∀ hs' hc', concatenateAt S16x4096 1 j (q :: xs) hs' (c - 128) hc' = v) :
    concatenateAt S16x4096 1 j (⟨S16x128, f⟩ :: q :: xs) hs c hc = v := by
  rw [concatenateAt_cons]
  split
  · rename_i hl
    refine Eq.trans (congrArg f ?_) (here hl)
    funext a
    match a with
    | 0 => rfl
    | 1 => rfl
  · rename_i hl
    exact later (Nat.le_of_not_lt hl) _ _

/-- One group's product at its place: the last block of the concatenation. -/
theorem last {α : Type} (j : S16x4096.Idx) (f : S16x128.Idx → α)
    (hs : ∀ s ∈ ([⟨S16x128, f⟩] : List ((s : Shape) × (s.Idx → α))).map (·.1), s.FitsOff S16x4096 1) (c : ℕ)
    (hc : c < (axisSizes S16x4096 1 [⟨S16x128, f⟩]).sum) (v : α) (hl : c < 128) (here : f (ix2 (j 0) ⟨c, hl⟩) = v) :
    concatenateAt S16x4096 1 j [⟨S16x128, f⟩] hs c hc = v := by
  rw [concatenateAt_singleton]
  refine Eq.trans (congrArg f ?_) here
  funext a
  match a with
  | 0 => rfl
  | 1 => rfl

/-- The 32 groups' products side by side are the rotation. -/
theorem rotated_eq (x0 : Vec Ideal S16x4096 .bf16) (x1 : Vec Ideal S128x128 .f32) : rotated x0 x1 = rot x0 x1 := by
  funext j
  have hj : (j 1).val < 4096 := (j 1).isLt
  have e : rotated x0 x1 = concatenate S16x4096 1 [
      ⟨S16x128, piece x0 x1 ![0, 0] inb_S16x4096_S16x128_0_0⟩,
      ⟨S16x128, piece x0 x1 ![0, 128] inb_S16x4096_S16x128_0_128⟩,
      ⟨S16x128, piece x0 x1 ![0, 256] inb_S16x4096_S16x128_0_256⟩,
      ⟨S16x128, piece x0 x1 ![0, 384] inb_S16x4096_S16x128_0_384⟩,
      ⟨S16x128, piece x0 x1 ![0, 512] inb_S16x4096_S16x128_0_512⟩,
      ⟨S16x128, piece x0 x1 ![0, 640] inb_S16x4096_S16x128_0_640⟩,
      ⟨S16x128, piece x0 x1 ![0, 768] inb_S16x4096_S16x128_0_768⟩,
      ⟨S16x128, piece x0 x1 ![0, 896] inb_S16x4096_S16x128_0_896⟩,
      ⟨S16x128, piece x0 x1 ![0, 1024] inb_S16x4096_S16x128_0_1024⟩,
      ⟨S16x128, piece x0 x1 ![0, 1152] inb_S16x4096_S16x128_0_1152⟩,
      ⟨S16x128, piece x0 x1 ![0, 1280] inb_S16x4096_S16x128_0_1280⟩,
      ⟨S16x128, piece x0 x1 ![0, 1408] inb_S16x4096_S16x128_0_1408⟩,
      ⟨S16x128, piece x0 x1 ![0, 1536] inb_S16x4096_S16x128_0_1536⟩,
      ⟨S16x128, piece x0 x1 ![0, 1664] inb_S16x4096_S16x128_0_1664⟩,
      ⟨S16x128, piece x0 x1 ![0, 1792] inb_S16x4096_S16x128_0_1792⟩,
      ⟨S16x128, piece x0 x1 ![0, 1920] inb_S16x4096_S16x128_0_1920⟩,
      ⟨S16x128, piece x0 x1 ![0, 2048] inb_S16x4096_S16x128_0_2048⟩,
      ⟨S16x128, piece x0 x1 ![0, 2176] inb_S16x4096_S16x128_0_2176⟩,
      ⟨S16x128, piece x0 x1 ![0, 2304] inb_S16x4096_S16x128_0_2304⟩,
      ⟨S16x128, piece x0 x1 ![0, 2432] inb_S16x4096_S16x128_0_2432⟩,
      ⟨S16x128, piece x0 x1 ![0, 2560] inb_S16x4096_S16x128_0_2560⟩,
      ⟨S16x128, piece x0 x1 ![0, 2688] inb_S16x4096_S16x128_0_2688⟩,
      ⟨S16x128, piece x0 x1 ![0, 2816] inb_S16x4096_S16x128_0_2816⟩,
      ⟨S16x128, piece x0 x1 ![0, 2944] inb_S16x4096_S16x128_0_2944⟩,
      ⟨S16x128, piece x0 x1 ![0, 3072] inb_S16x4096_S16x128_0_3072⟩,
      ⟨S16x128, piece x0 x1 ![0, 3200] inb_S16x4096_S16x128_0_3200⟩,
      ⟨S16x128, piece x0 x1 ![0, 3328] inb_S16x4096_S16x128_0_3328⟩,
      ⟨S16x128, piece x0 x1 ![0, 3456] inb_S16x4096_S16x128_0_3456⟩,
      ⟨S16x128, piece x0 x1 ![0, 3584] inb_S16x4096_S16x128_0_3584⟩,
      ⟨S16x128, piece x0 x1 ![0, 3712] inb_S16x4096_S16x128_0_3712⟩,
      ⟨S16x128, piece x0 x1 ![0, 3840] inb_S16x4096_S16x128_0_3840⟩,
      ⟨S16x128, piece x0 x1 ![0, 3968] inb_S16x4096_S16x128_0_3968⟩]
      concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1 := rfl
  rw [e, concatenate_apply]
  refine step j _ _ _ _ _ _ _ (fun hl => piece_eq x0 x1 0 _ j _ hl rfl (by omega)) fun h0 _ _ => ?_
  refine step j _ _ _ _ _ _ _ (fun hl => piece_eq x0 x1 128 _ j _ hl rfl (by omega)) fun h1 _ _ => ?_
  refine step j _ _ _ _ _ _ _ (fun hl => piece_eq x0 x1 256 _ j _ hl rfl (by omega)) fun h2 _ _ => ?_
  refine step j _ _ _ _ _ _ _ (fun hl => piece_eq x0 x1 384 _ j _ hl rfl (by omega)) fun h3 _ _ => ?_
  refine step j _ _ _ _ _ _ _ (fun hl => piece_eq x0 x1 512 _ j _ hl rfl (by omega)) fun h4 _ _ => ?_
  refine step j _ _ _ _ _ _ _ (fun hl => piece_eq x0 x1 640 _ j _ hl rfl (by omega)) fun h5 _ _ => ?_
  refine step j _ _ _ _ _ _ _ (fun hl => piece_eq x0 x1 768 _ j _ hl rfl (by omega)) fun h6 _ _ => ?_
  refine step j _ _ _ _ _ _ _ (fun hl => piece_eq x0 x1 896 _ j _ hl rfl (by omega)) fun h7 _ _ => ?_
  refine step j _ _ _ _ _ _ _ (fun hl => piece_eq x0 x1 1024 _ j _ hl rfl (by omega)) fun h8 _ _ => ?_
  refine step j _ _ _ _ _ _ _ (fun hl => piece_eq x0 x1 1152 _ j _ hl rfl (by omega)) fun h9 _ _ => ?_
  refine step j _ _ _ _ _ _ _ (fun hl => piece_eq x0 x1 1280 _ j _ hl rfl (by omega)) fun h10 _ _ => ?_
  refine step j _ _ _ _ _ _ _ (fun hl => piece_eq x0 x1 1408 _ j _ hl rfl (by omega)) fun h11 _ _ => ?_
  refine step j _ _ _ _ _ _ _ (fun hl => piece_eq x0 x1 1536 _ j _ hl rfl (by omega)) fun h12 _ _ => ?_
  refine step j _ _ _ _ _ _ _ (fun hl => piece_eq x0 x1 1664 _ j _ hl rfl (by omega)) fun h13 _ _ => ?_
  refine step j _ _ _ _ _ _ _ (fun hl => piece_eq x0 x1 1792 _ j _ hl rfl (by omega)) fun h14 _ _ => ?_
  refine step j _ _ _ _ _ _ _ (fun hl => piece_eq x0 x1 1920 _ j _ hl rfl (by omega)) fun h15 _ _ => ?_
  refine step j _ _ _ _ _ _ _ (fun hl => piece_eq x0 x1 2048 _ j _ hl rfl (by omega)) fun h16 _ _ => ?_
  refine step j _ _ _ _ _ _ _ (fun hl => piece_eq x0 x1 2176 _ j _ hl rfl (by omega)) fun h17 _ _ => ?_
  refine step j _ _ _ _ _ _ _ (fun hl => piece_eq x0 x1 2304 _ j _ hl rfl (by omega)) fun h18 _ _ => ?_
  refine step j _ _ _ _ _ _ _ (fun hl => piece_eq x0 x1 2432 _ j _ hl rfl (by omega)) fun h19 _ _ => ?_
  refine step j _ _ _ _ _ _ _ (fun hl => piece_eq x0 x1 2560 _ j _ hl rfl (by omega)) fun h20 _ _ => ?_
  refine step j _ _ _ _ _ _ _ (fun hl => piece_eq x0 x1 2688 _ j _ hl rfl (by omega)) fun h21 _ _ => ?_
  refine step j _ _ _ _ _ _ _ (fun hl => piece_eq x0 x1 2816 _ j _ hl rfl (by omega)) fun h22 _ _ => ?_
  refine step j _ _ _ _ _ _ _ (fun hl => piece_eq x0 x1 2944 _ j _ hl rfl (by omega)) fun h23 _ _ => ?_
  refine step j _ _ _ _ _ _ _ (fun hl => piece_eq x0 x1 3072 _ j _ hl rfl (by omega)) fun h24 _ _ => ?_
  refine step j _ _ _ _ _ _ _ (fun hl => piece_eq x0 x1 3200 _ j _ hl rfl (by omega)) fun h25 _ _ => ?_
  refine step j _ _ _ _ _ _ _ (fun hl => piece_eq x0 x1 3328 _ j _ hl rfl (by omega)) fun h26 _ _ => ?_
  refine step j _ _ _ _ _ _ _ (fun hl => piece_eq x0 x1 3456 _ j _ hl rfl (by omega)) fun h27 _ _ => ?_
  refine step j _ _ _ _ _ _ _ (fun hl => piece_eq x0 x1 3584 _ j _ hl rfl (by omega)) fun h28 _ _ => ?_
  refine step j _ _ _ _ _ _ _ (fun hl => piece_eq x0 x1 3712 _ j _ hl rfl (by omega)) fun h29 _ _ => ?_
  refine step j _ _ _ _ _ _ _ (fun hl => piece_eq x0 x1 3840 _ j _ hl rfl (by omega)) fun h30 _ _ => ?_
  have hl : (j 1).val - 128 - 128 - 128 - 128 - 128 - 128 - 128 - 128 - 128 - 128 - 128 - 128 - 128 - 128 - 128 - 128 - 128 - 128 - 128 - 128 - 128 - 128 - 128 - 128 - 128 - 128 - 128 - 128 - 128 - 128 - 128 < 128 := by omega
  exact last j _ _ _ _ _ hl (piece_eq x0 x1 3968 _ j _ hl rfl (by omega))

end Cert.KernelIdeal.Hand

end
-- ==== Proof.RotationRef.lean ====
module

public import proofs.«01_k».proof.Proof.Rotation

/-! # The reference's rotation and scales are the kernel's

The reference rotates all the groups by one product over the activations cut into groups of 128, and takes each row's scale from
the rotated row before it is flattened. -/

@[expose] public section

set_option maxRecDepth 16384

noncomputable section

namespace Cert.ReferenceIdeal.Hand

open Cert.ReferenceIdeal Cert.ReferenceIdeal.Gen
open Idealize.ShloMosaic Idealize.ShloMosaic.TcCoe

section Matrix

variable {F : FTy → Type} [FloatOps F]

/-- Both programs start the doublings from the same matrix. -/
theorem had1_eq : (had1 : FVec F S1x1 .f32) = Cert.KernelIdeal.Hand.had1 := rfl

/-- Both programs double the matrix of size 1 alike. -/
theorem had2_eq (h : FVec F S1x1 .f32) : had2 h = Cert.KernelIdeal.Hand.had2 h := rfl

/-- Both programs double the matrix of size 2 alike. -/
theorem had4_eq (h : FVec F S2x2 .f32) : had4 h = Cert.KernelIdeal.Hand.had4 h := rfl

/-- Both programs double the matrix of size 4 alike. -/
theorem had8_eq (h : FVec F S4x4 .f32) : had8 h = Cert.KernelIdeal.Hand.had8 h := rfl

/-- Both programs double the matrix of size 8 alike. -/
theorem had16_eq (h : FVec F S8x8 .f32) : had16 h = Cert.KernelIdeal.Hand.had16 h := rfl

/-- Both programs double the matrix of size 16 alike. -/
theorem had32_eq (h : FVec F S16x16 .f32) : had32 h = Cert.KernelIdeal.Hand.had32 h := rfl

/-- Both programs double the matrix of size 32 alike. -/
theorem had64_eq (h : FVec F S32x32 .f32) : had64 h = Cert.KernelIdeal.Hand.had64 h := rfl

/-- Both programs double the matrix of size 64 alike. -/
theorem had128_eq (h : FVec F S64x64 .f32) : had128 h = Cert.KernelIdeal.Hand.had128 h := rfl

/-- Both programs build the same Hadamard matrix. -/
theorem hadamard_eq : (hadamard : FVec F S128x128 .f32) = Cert.KernelIdeal.Hand.hadamard := by
  unfold hadamard Cert.KernelIdeal.Hand.hadamard
  rw [had1_eq, had2_eq, had4_eq, had8_eq, had16_eq, had32_eq, had64_eq, had128_eq]

end Matrix

/-- The reference's rotation, flattened, is the kernel's. -/
theorem rotated_flat (x : FVec Ideal S16x1x4096 .bf16) :
    shapeCast S16x4096 (rotated x) shapeCasts_S16x1x4096_S16x4096
      = Cert.KernelIdeal.Hand.rot (shapeCast S16x4096 x shapeCasts_S16x1x4096_S16x4096) hadamard := by
  unfold rotated
  generalize hadamard (F := Ideal) = h
  funext j
  pointwise [Cert.KernelIdeal.Hand.rot]

/-- The scale of each row is the same, whether the row is flattened first or last. -/
theorem scales_eq (r : FVec Ideal S16x1x4096 .f32) (R : FVec Ideal S16x4096 .f32)
    (h : shapeCast S16x4096 r shapeCasts_S16x1x4096_S16x4096 = R) :
    shapeCast S16x1 (scalesOf (amax r)) shapeCasts_S16x1x1_S16x1
      = Cert.KernelIdeal.Gen.k0_pay1 (Cert.KernelIdeal.Hand.isZero (Cert.KernelIdeal.Hand.amax R))
          (Cert.KernelIdeal.Hand.seventh (Cert.KernelIdeal.Hand.amax R)) (Scalar.ofBits .f32 0x3F800000#32 : Ideal .f32) := by
  subst h
  funext j
  pointwise [scalesOf, amax, Cert.KernelIdeal.Gen.k0_pay1, Cert.KernelIdeal.Hand.isZero, Cert.KernelIdeal.Hand.amax, Cert.KernelIdeal.Hand.seventh]

end Cert.ReferenceIdeal.Hand

end
-- ==== Proof.Product.lean ====
module

public import proofs.«01_k».proof.Proof.RotationRef
public import Idealize.ShloMosaic.Lib.IntMxu

/-! # The integer product: exact in both programs

Every code lies between -7 and 7 and every weight between -128 and 127, so the magnitudes of the 4096 products at one element
total at most 4096 · 7 · 128, below the bound up to which the integer product is exact. The kernel's product of the codes with a
block of the weight's columns is therefore, column by column, the reference's product with the whole weight. -/

@[expose] public section

set_option maxRecDepth 16384

noncomputable section

namespace Cert.Proof

open Idealize.ShloMosaic Idealize.ShloMosaic.TcCoe

/-! ## The codes are small -/

/-- The pattern of seven. -/
theorem seven : Ideal.ofBits .f32 0x40E00000#32 = ((7 : ℝ) : EReal) := by
  simp [Ideal.ofBits, Ideal.ieee, -EReal.coe_mul]; norm_num

/-- The pattern of minus seven. -/
theorem negSeven : Ideal.ofBits .f32 0xC0E00000#32 = ((-7 : ℝ) : EReal) := by
  simp [Ideal.ofBits, Ideal.ieee, -EReal.coe_mul]; norm_num

/-- A value clipped to [-7, 7] converts to a byte of magnitude at most 7. -/
theorem clipped_small (x : EReal) : (Ideal.fptosi 8 (min ((7 : ℝ) : EReal) (max ((-7 : ℝ) : EReal) x))).toInt.natAbs ≤ 7 := by
  obtain ⟨r, hr, h1, h2⟩ : ∃ r : ℝ, min ((7 : ℝ) : EReal) (max ((-7 : ℝ) : EReal) x) = (r : EReal) ∧ -7 ≤ r ∧ r ≤ 7 := by
    have ha : min ((7 : ℝ) : EReal) (max ((-7 : ℝ) : EReal) x) ≤ ((7 : ℝ) : EReal) := min_le_left _ _
    have hb : ((-7 : ℝ) : EReal) ≤ min ((7 : ℝ) : EReal) (max ((-7 : ℝ) : EReal) x) :=
      le_min (by exact_mod_cast (by norm_num : (-7 : ℝ) ≤ 7)) (le_max_left _ _)
    generalize min ((7 : ℝ) : EReal) (max ((-7 : ℝ) : EReal) x) = y at ha hb
    induction y with
    | bot => exact absurd hb (by simp)
    | top => exact absurd ha (by simp)
    | coe r => exact ⟨r, rfl, by exact_mod_cast hb, by exact_mod_cast ha⟩
  rw [hr, Ideal.fptosi, Ideal.toIntClamped_coe]
  have hz : -7 ≤ (if 0 ≤ r then ⌊r⌋ else ⌈r⌉) ∧ (if 0 ≤ r then ⌊r⌋ else ⌈r⌉) ≤ 7 := by
    split
    · exact ⟨Int.le_floor.mpr (by exact_mod_cast h1), Int.floor_le_iff.mpr (by push_cast; linarith)⟩
    · exact ⟨Int.le_ceil_iff.mpr (by push_cast; linarith), Int.ceil_le.mpr (by exact_mod_cast h2)⟩
  generalize (if 0 ≤ r then ⌊r⌋ else ⌈r⌉) = z at hz
  have e : max (-((2 ^ (8 - 1) : ℕ) : ℤ)) (min (((2 ^ (8 - 1) : ℕ) : ℤ) - 1) z) = z := by norm_num; omega
  rw [e, BitVec.toInt_ofInt, Int.bmod_eq_of_le (by omega) (by omega)]
  omega

/-- The reference's codes have magnitude at most 7. -/
theorem codes_small (R : FVec Ideal Cert.ReferenceIdeal.S16x4096 .f32) (S : FVec Ideal Cert.ReferenceIdeal.S16x1 .f32)
    (j : Cert.ReferenceIdeal.S16x4096.Idx) : (Cert.ReferenceIdeal.Gen.k0_pay2 (F := Ideal) R S j).toInt.natAbs ≤ 7 := by
  have h := clipped_small
  rw [← seven, ← negSeven] at h
  exact h _

/-- The kernel's codes are the reference's, given the same rotated activations and the same scales. -/
theorem codes_eq (R : FVec Ideal Cert.ReferenceIdeal.S16x4096 .f32) (S : FVec Ideal Cert.ReferenceIdeal.S16x1 .f32)
    (z : IVec Cert.KernelIdeal.S16x1 1) (q : FVec Ideal Cert.KernelIdeal.S16x1 .f32) (one : Ideal .f32)
    (h : Cert.KernelIdeal.Gen.k0_pay1 (F := Ideal) z q one = S) :
    Cert.KernelIdeal.Gen.k0_pay2 (F := Ideal) R z q one = Cert.ReferenceIdeal.Gen.k0_pay2 (F := Ideal) R S := by
  subst h
  funext j
  pointwise [Cert.KernelIdeal.Gen.k0_pay2, Cert.ReferenceIdeal.Gen.k0_pay2, Cert.ReferenceIdeal.Gen.k0_pay1]

/-! ## The product, element by element -/

/-- A sum of 4096 products of a small code with a byte is within the exact bound. -/
theorem total_le (a b : Fin 4096 → BitVec 8) (ha : ∀ k, (a k).toInt.natAbs ≤ 7) :
    ∑ k, ((a k).toInt * (b k).toInt).natAbs ≤ 2 ^ 24 - 1 := by
  calc ∑ k, ((a k).toInt * (b k).toInt).natAbs ≤ ∑ _k : Fin 4096, 7 * 128 :=
        Finset.sum_le_sum fun k _ => by
          rw [Int.natAbs_mul]
          exact Nat.mul_le_mul (ha k) (natAbs_toInt_i8_le _)
    _ ≤ 2 ^ 24 - 1 := by simp

/-- The integer dot product of row `r` of the codes with column `c` of a weight. -/
def dot {n : ℕ} (a : IVec ⟨2, ![16, 4096]⟩ 8) (w : IVec ⟨2, ![4096, n]⟩ 8) (r : Fin 16) (c : Fin n) : ℤ :=
  ∑ k : Fin 4096, (a (ix2 r k)).toInt * (w (ix2 k c)).toInt

/-- Two columns with the same entries give the same dot product. -/
theorem dot_congr {n n' : ℕ} (a : IVec ⟨2, ![16, 4096]⟩ 8) (w : IVec ⟨2, ![4096, n]⟩ 8) (w' : IVec ⟨2, ![4096, n']⟩ 8) (r : Fin 16)
    (c : Fin n) (c' : Fin n') (h : ∀ k : Fin 4096, w (ix2 k c) = w' (ix2 k c')) : dot a w r c = dot a w' r c' := by
  unfold dot
  exact Finset.sum_congr rfl fun k _ => by rw [h k]

/-- The kernel's product with one block of the weight's columns, at an element. -/
theorem kernel_dot (a : IVec Cert.KernelIdeal.S16x4096 8) (w : IVec Cert.KernelIdeal.S4096x1024 8) (ha : ∀ j, (a j).toInt.natAbs ≤ 7)
    (r : Fin 16) (c : Fin 1024) :
    matmulI8 IntMxuNumerics.v7x Cert.KernelIdeal.dot_S16x4096_S4096x1024_S16x1024_1_0_0_1_n_n a w
      (constantI Cert.KernelIdeal.S16x1024 32 0#32) (ix2 r c) = BitVec.ofInt 32 (dot a w r c) := by
  have hl : ∀ k : Fin 4096, Cert.KernelIdeal.dot_S16x4096_S4096x1024_S16x1024_1_0_0_1_n_n.lhsIdx (ix2 r c)
      (Cert.KernelIdeal.dot_S16x4096_S4096x1024_S16x1024_1_0_0_1_n_n.contrIdx₁ rfl rfl k) = ix2 r k := fun k => by
    funext x; match x with | 0 => rfl | 1 => rfl
  have hr : ∀ k : Fin 4096, Cert.KernelIdeal.dot_S16x4096_S4096x1024_S16x1024_1_0_0_1_n_n.rhsIdx (ix2 r c)
      (Cert.KernelIdeal.dot_S16x4096_S4096x1024_S16x1024_1_0_0_1_n_n.contrIdx₁ rfl rfl k) = ix2 k c := fun k => by
    funext x; match x with | 0 => rfl | 1 => rfl
  rw [matmulI8_exact _ _ a w _ _ rfl ?_]
  · unfold dotI8 dot
    rw [DotDims.sum_contr₁ _ rfl rfl]
    exact congrArg _ (Finset.sum_congr rfl fun k _ => by rw [hl k, hr k])
  · unfold absDotI8
    rw [DotDims.sum_contr₁ _ rfl rfl]
    refine le_trans (le_of_eq (Finset.sum_congr rfl fun k _ => ?_)) (total_le (fun k => a (ix2 r k)) (fun k => w (ix2 k c)) fun k => ha _)
    rw [hl k, hr k]

/-- The reference's product with the whole weight, at an element. -/
theorem reference_dot (a : IVec Cert.ReferenceIdeal.S16x4096 8) (w : IVec Cert.ReferenceIdeal.S4096x28672 8)
    (ha : ∀ j, (a j).toInt.natAbs ≤ 7) (r : Fin 16) (c : Fin 28672) :
    matmulI8 IntMxuNumerics.v7x Cert.ReferenceIdeal.dot_S16x4096_S4096x28672_S16x28672_1_0_0_1_n_n a w
      (constantI Cert.ReferenceIdeal.S16x28672 32 0#32) (ix2 r c) = BitVec.ofInt 32 (dot a w r c) := by
  have hl : ∀ k : Fin 4096, Cert.ReferenceIdeal.dot_S16x4096_S4096x28672_S16x28672_1_0_0_1_n_n.lhsIdx (ix2 r c)
      (Cert.ReferenceIdeal.dot_S16x4096_S4096x28672_S16x28672_1_0_0_1_n_n.contrIdx₁ rfl rfl k) = ix2 r k := fun k => by
    funext x; match x with | 0 => rfl | 1 => rfl
  have hr : ∀ k : Fin 4096, Cert.ReferenceIdeal.dot_S16x4096_S4096x28672_S16x28672_1_0_0_1_n_n.rhsIdx (ix2 r c)
      (Cert.ReferenceIdeal.dot_S16x4096_S4096x28672_S16x28672_1_0_0_1_n_n.contrIdx₁ rfl rfl k) = ix2 k c := fun k => by
    funext x; match x with | 0 => rfl | 1 => rfl
  rw [matmulI8_exact _ _ a w _ _ rfl ?_]
  · unfold dotI8 dot
    rw [DotDims.sum_contr₁ _ rfl rfl]
    exact congrArg _ (Finset.sum_congr rfl fun k _ => by rw [hl k, hr k])
  · unfold absDotI8
    rw [DotDims.sum_contr₁ _ rfl rfl]
    refine le_trans (le_of_eq (Finset.sum_congr rfl fun k _ => ?_)) (total_le (fun k => a (ix2 r k)) (fun k => w (ix2 k c)) fun k => ha _)
    rw [hl k, hr k]

/-! ## The scaled result, element by element -/

/-- The product word converted, times the row's scale, times the column's weight scale, plus the column's bias. -/
def scaled (z : ℤ) (s u b : EReal) : EReal := Scalar.sitofp (F := Ideal) .f32 (BitVec.ofInt 32 z) * s * u + b

/-- What the body stores at an element of a column block. -/
theorem kernel_pay (a : IVec Cert.KernelIdeal.S16x4096 8) (w : IVec Cert.KernelIdeal.S4096x1024 8) (ha : ∀ j, (a j).toInt.natAbs ≤ 7)
    (s : FVec Ideal Cert.KernelIdeal.S16x1 .f32) (u b : FVec Ideal Cert.KernelIdeal.S1x1024 .f32) (r : Fin 16) (c : Fin 1024) :
    Cert.KernelIdeal.Gen.k0_pay3 (F := Ideal) a w s u b (ix2 r c) = scaled (dot a w r c) (s (ix2 r 0)) (u (ix2 0 c)) (b (ix2 0 c)) := by
  pointwise [Cert.KernelIdeal.Gen.k0_pay3]
  rw [kernel_dot a w ha r c]
  rfl

/-- What the reference stores at an element. -/
theorem reference_pay (R : FVec Ideal Cert.ReferenceIdeal.S16x4096 .f32) (S : FVec Ideal Cert.ReferenceIdeal.S16x1 .f32)
    (w : IVec Cert.ReferenceIdeal.S4096x28672 8) (u b : FVec Ideal Cert.ReferenceIdeal.S1x28672 .f32) (r : Fin 16) (c : Fin 28672) :
    Cert.ReferenceIdeal.Gen.k0_pay3 (F := Ideal) R S w u b (ix2 r c)
      = scaled (dot (Cert.ReferenceIdeal.Gen.k0_pay2 (F := Ideal) R S) w r c) (S (ix2 r 0)) (u (ix2 0 c)) (b (ix2 0 c)) := by
  have ha := codes_small R S
  unfold Cert.ReferenceIdeal.Gen.k0_pay3
  generalize Cert.ReferenceIdeal.Gen.k0_pay2 (F := Ideal) R S = a at ha ⊢
  pointwise [Cert.ReferenceIdeal.Gen.k0_pay1]
  rw [reference_dot a w ha r c]
  rfl

end Cert.Proof

end
-- ==== Proof.KernelArrays.lean ====
module

public import proofs.«01_k».proof.Proof.Product
public import Idealize.ShloMosaic.Lib.Pipeline.ValueKit.Geometry
public import Idealize.ShloMosaic.Lib.Pipeline.ValueKit.Point

/-! # What the kernel's run leaves in its three result arrays -/

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-! ## The index maps -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

section Any

variable {F : FTy → Type} [FloatOps F]
variable (m : (ℓ : Loc nD τ sig) → Buf (Elt F) ℓ)

/-- The activations' one block is the whole array. -/
theorem block0 (c : Dev nD) (t : Fin cfg0.N) : iblk m c 0 t = V m c main_v0 := by
  funext y
  blk_simp [iblk, index0]
  blk_ext [index0]

/-- The matrix's one block is the whole array. -/
theorem block1 (c : Dev nD) (t : Fin cfg0.N) : iblk m c 1 t = V m c main_v17 := by
  funext y
  blk_simp [iblk, index1]
  blk_ext [index1]

/-- The codes' array ends up holding the codes. -/
theorem array6 (c : Dev nD) : (dats m 0 c).arrAt 6 cfg0.N = codesOf m c := by
  refine (dats m 0 c).arrAt_eq_of_covers 6 (codesOf m c) (by decide +kernel) fun t hf y => ?_
  blk_simp [after_6]
  blk_ext [index6]

/-- The scales' array ends up holding the scales. -/
theorem array7 (c : Dev nD) : (dats m 0 c).arrAt 7 cfg0.N = scalesOf m c := by
  refine (dats m 0 c).arrAt_eq_of_covers 7 (scalesOf m c) (by decide +kernel) fun t hf y => ?_
  blk_simp [after_7]
  blk_ext [index7]

end Any

section AtIdeal

variable (m : (ℓ : Loc nD τ sig) → Buf (Elt Ideal) ℓ)

/-- The codes have magnitude at most 7. -/
theorem codesOf_small (c : Dev nD) (j : S16x4096.Idx) : (codesOf m c j).toInt.natAbs ≤ 7 := by
  have h : codesOf m c = _ := Cert.Proof.codes_eq _ _ _ _ _ rfl
  rw [h]
  exact Cert.Proof.codes_small _ _ j

/-- The output, element by element: the codes' row times the weight's column, scaled, plus the bias. -/
def output (c : Dev nD) : FVec Ideal S16x28672 .bf16 := fun j =>
  Cert.Proof.scaled (Cert.Proof.dot (codesOf m c) (V m c main_arg1) (j 0) (j 1)) (scalesOf m c (ix2 (j 0) 0))
    (V m c main_v18 (ix2 0 (j 1))) (V m c main_v19 (ix2 0 (j 1)))

/-- The output array ends up holding the output. -/
theorem array5 (c : Dev nD) : (dats m 0 c).arrAt 5 cfg0.N = output m c := by
  refine (dats m 0 c).arrAt_eq_of_covers 5 (output m c) (by decide +kernel) fun t hf y => ?_
  blk_simp [after_5]
  unfold blockOf
  obtain ⟨r, k, rfl⟩ : ∃ (r : Fin 16) (k : Fin 1024), y = ix2 r k := ⟨y 0, y 1, eq_ix2 y⟩
  refine (Cert.Proof.kernel_pay _ _ (codesOf_small m c) _ _ _ r k).trans ?_
  unfold output
  have hr : (win0_5.blk t).view.emb (ix2 r k) 0 = r := by
    refine Fin.ext ?_
    blk_simp [index5]
  have hk : ((win0_5.blk t).view.emb (ix2 r k) 1).val = t.val * 1024 + k.val := by
    blk_simp [index5]
  rw [hr]
  generalize (win0_5.blk t).view.emb (ix2 r k) 1 = q at hk
  have e2 : ∀ k' : Fin 4096, iblk m c 2 t (ix2 k' k) = V m c main_arg1 (ix2 k' q) := fun k' => by
    blk_simp [iblk]
    blk_ext [index2, hk]
  have e3 : iblk m c 3 t (ix2 0 k) = V m c main_v18 (ix2 0 q) := by
    blk_simp [iblk]
    blk_ext [index3, hk]
  have e4 : iblk m c 4 t (ix2 0 k) = V m c main_v19 (ix2 0 q) := by
    blk_simp [iblk]
    blk_ext [index4, hk]
  have ed : Cert.Proof.dot (codesOf m c) (iblk m c 2 t) r k = Cert.Proof.dot (codesOf m c) (V m c main_arg1) r q :=
    Cert.Proof.dot_congr (codesOf m c) (iblk m c 2 t) (V m c main_arg1) r k q e2
  rw [ed, e3, e4]

end AtIdeal

end Cert.KernelIdeal.Hand

end
-- ==== Proof.RefArrays.lean ====
module

public import proofs.«01_k».proof.Proof.Product
public import Idealize.ShloMosaic.Lib.Pipeline.ValueKit.Geometry
public import Idealize.ShloMosaic.Lib.Pipeline.ValueKit.Point

/-! # What the reference's run leaves in its three result arrays

The reference's kernel has one grid point, whose blocks are the whole arrays. -/

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.Pipeline (Dat Cfg Window)

/-! ## The index maps: every window stays at the first block -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

variable {F : FTy → Type} [FloatOps F]
variable (m : (ℓ : Loc nD τ sig) → Buf (Elt F) ℓ)

/-! ## Each input's one block is its whole array -/

theorem block0 (c : Dev nD) (t : Fin cfg0.N) : iblk m c 0 t = V m c main_v29 := by
  funext y
  blk_simp [iblk, index0]
  blk_ext [index0]

theorem block1 (c : Dev nD) (t : Fin cfg0.N) : iblk m c 1 t = V m c main_v30 := by
  funext y
  blk_simp [iblk, index1]
  blk_ext [index1]

theorem block2 (c : Dev nD) (t : Fin cfg0.N) : iblk m c 2 t = V m c main_arg1 := by
  funext y
  blk_simp [iblk, index2]
  blk_ext [index2]

theorem block3 (c : Dev nD) (t : Fin cfg0.N) : iblk m c 3 t = V m c main_v31 := by
  funext y
  blk_simp [iblk, index3]
  blk_ext [index3]

theorem block4 (c : Dev nD) (t : Fin cfg0.N) : iblk m c 4 t = V m c main_v32 := by
  funext y
  blk_simp [iblk, index4]
  blk_ext [index4]

/-! ## What the body leaves in each output's buffer -/

/-- The output buffer holds the scaled product. -/
theorem out5 (x0 : Vec F S16x4096 .f32) (x1 : Vec F S16x1 .f32) (x2 : Vec F S4096x28672 .i8) (x3 x4 : Vec F S1x28672 .f32) :
    out0_5 x0 x1 x2 x3 x4 = k0_pay3 x0 x1 x2 x3 x4 := by
  have hz : (![0, 0] : Fin 2 → Nat) = fun _ => 0 := funext fun a => by fin_cases a <;> rfl
  unfold out0_5
  rw [View.canon_unit_zero hz, View.ld_unit_zero hz, View.ld_unit_zero hz, View.ld_unit_zero hz, View.ld_unit_zero hz,
    View.ld_unit_zero hz]

/-- The codes' buffer holds the codes. -/
theorem out6 (x0 : Vec F S16x4096 .f32) (x1 : Vec F S16x1 .f32) (x2 : Vec F S4096x28672 .i8) (x3 x4 : Vec F S1x28672 .f32) :
    out0_6 x0 x1 x2 x3 x4 = k0_pay2 x0 x1 := by
  have hz : (![0, 0] : Fin 2 → Nat) = fun _ => 0 := funext fun a => by fin_cases a <;> rfl
  unfold out0_6
  rw [View.canon_unit_zero hz, View.ld_unit_zero hz, View.ld_unit_zero hz]

/-- The scales' buffer holds the scales. -/
theorem out7 (x0 : Vec F S16x4096 .f32) (x1 : Vec F S16x1 .f32) (x2 : Vec F S4096x28672 .i8) (x3 x4 : Vec F S1x28672 .f32) :
    out0_7 x0 x1 x2 x3 x4 = x1 := by
  have hz : (![0, 0] : Fin 2 → Nat) = fun _ => 0 := funext fun a => by fin_cases a <;> rfl
  unfold out0_7
  rw [View.canon_unit_zero hz, View.ld_unit_zero hz]
  funext y
  exact congrFun (shapeCast_self _ _) y

/-! ## The result arrays -/

/-- The output array ends up holding the scaled product. -/
theorem array5 (c : Dev nD) : (dats m 0 c).arrAt 5 cfg0.N
    = k0_pay3 (V m c main_v29) (V m c main_v30) (V m c main_arg1) (V m c main_v31) (V m c main_v32) := by
  refine (dats m 0 c).arrAt_eq_of_covers 5 _ (by decide +kernel) fun t hf y => ?_
  blk_simp [after0_5]
  rw [out5, block0, block1, block2, block3, block4]
  blk_ext [index5]

/-- The codes' array ends up holding the codes. -/
theorem array6 (c : Dev nD) : (dats m 0 c).arrAt 6 cfg0.N = k0_pay2 (V m c main_v29) (V m c main_v30) := by
  refine (dats m 0 c).arrAt_eq_of_covers 6 _ (by decide +kernel) fun t hf y => ?_
  blk_simp [after0_6]
  rw [out6, block0, block1]
  blk_ext [index6]

/-- The scales' array ends up holding the scales. -/
theorem array7 (c : Dev nD) : (dats m 0 c).arrAt 7 cfg0.N = V m c main_v30 := by
  refine (dats m 0 c).arrAt_eq_of_covers 7 _ (by decide +kernel) fun t hf y => ?_
  blk_simp [after0_7]
  rw [out7, block1]
  blk_ext [index7]

end Cert.ReferenceIdeal.Hand

end
-- ==== Proof.Equation.lean ====
module

public import proofs.«01_k».proof.Proof.KernelArrays
public import proofs.«01_k».proof.Proof.RefArrays

/-! # The kernel's three arrays are the reference's

Both programs start from memories that hold the same activations, weight, weight scales and bias. -/

@[expose] public section

set_option maxRecDepth 16384

noncomputable section

namespace Cert.Proof

open Idealize.ShloMosaic Idealize.ShloMosaic.TcCoe Idealize.SL.Sem

/-- A vector laid out as one row: the kernel reshapes it, the reference broadcasts it. -/
theorem row_eq (x : FVec Ideal Cert.ReferenceIdeal.S28672 .f32) :
    (shapeCast Cert.KernelIdeal.S1x28672 x Cert.KernelIdeal.Gen.shapeCasts_S28672_S1x28672
      : FVec Ideal Cert.KernelIdeal.S1x28672 .f32)
    = broadcastInDim Cert.ReferenceIdeal.S1x28672 ![1] Cert.ReferenceIdeal.Gen.bcast_S28672_S1x28672_1 x := by
  funext j
  obtain ⟨r, c, rfl⟩ : ∃ (r : Fin 1) (c : Fin 28672), j = ix2 r c := ⟨j 0, j 1, eq_ix2 j⟩
  have hr : r = 0 := Subsingleton.elim _ _
  subst hr
  pointwise []

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The rotated activations agree. -/
theorem rotated_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    shapeCast Cert.ReferenceIdeal.S16x4096 (Cert.ReferenceIdeal.Hand.rotated (F := Ideal)
        (m' ((c.tc : Thread Cert.ReferenceIdeal.nD Cert.ReferenceIdeal.τ).loc Cert.ReferenceIdeal.main_arg0)))
        Cert.ReferenceIdeal.Gen.shapeCasts_S16x1x4096_S16x4096
      = Cert.KernelIdeal.Hand.rotated (Cert.KernelIdeal.Gen.iblk m c 0 Cert.KernelIdeal.Hand.pt0)
          (Cert.KernelIdeal.Gen.iblk m c 1 Cert.KernelIdeal.Hand.pt0) := by
  rw [Cert.ReferenceIdeal.Hand.rotated_flat, Cert.ReferenceIdeal.Hand.hadamard_eq, h0, Cert.KernelIdeal.Hand.block0,
    Cert.KernelIdeal.Hand.block1, Cert.KernelIdeal.Hand.V_v0, Cert.KernelIdeal.Hand.V_v17,
    Cert.KernelIdeal.Hand.rotated_eq]

/-- The scales agree. -/
theorem scales_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.V m' c Cert.ReferenceIdeal.main_v30 = Cert.KernelIdeal.Hand.scalesOf m c := by
  rw [Cert.ReferenceIdeal.Hand.V_v30]
  unfold Cert.KernelIdeal.Hand.scalesOf Cert.KernelIdeal.Hand.scales
  exact Cert.ReferenceIdeal.Hand.scales_eq _ _ (rotated_agree m m' c h0)

/-- The codes agree. -/
theorem codes_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Gen.k0_pay2 (F := Ideal) (Cert.ReferenceIdeal.Gen.V m' c Cert.ReferenceIdeal.main_v29)
        (Cert.ReferenceIdeal.Gen.V m' c Cert.ReferenceIdeal.main_v30)
      = Cert.KernelIdeal.Hand.codesOf m c := by
  rw [scales_agree m m' c h0, Cert.ReferenceIdeal.Hand.V_v29, rotated_agree m m' c h0]
  unfold Cert.KernelIdeal.Hand.codesOf Cert.KernelIdeal.Hand.codes
  refine (codes_eq _ _ _ _ _ ?_).symm
  unfold Cert.KernelIdeal.Hand.scalesOf Cert.KernelIdeal.Hand.scales
  rfl

/-- The outputs agree. -/
theorem outputs_agree
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Gen.k0_pay3 (F := Ideal) (Cert.ReferenceIdeal.Gen.V m' c Cert.ReferenceIdeal.main_v29)
        (Cert.ReferenceIdeal.Gen.V m' c Cert.ReferenceIdeal.main_v30)
        (Cert.ReferenceIdeal.Gen.V m' c Cert.ReferenceIdeal.main_arg1)
        (Cert.ReferenceIdeal.Gen.V m' c Cert.ReferenceIdeal.main_v31)
        (Cert.ReferenceIdeal.Gen.V m' c Cert.ReferenceIdeal.main_v32)
      = Cert.KernelIdeal.Hand.output m c := by
  have e1 : Cert.ReferenceIdeal.Gen.V m' c Cert.ReferenceIdeal.main_arg1
      = Cert.KernelIdeal.Gen.V m c Cert.KernelIdeal.main_arg1 :=
    (Cert.ReferenceIdeal.Gen.V_main_arg1 m' c).trans (h1.trans (Cert.KernelIdeal.Gen.V_main_arg1 m c).symm)
  have e2 : Cert.ReferenceIdeal.Gen.V m' c Cert.ReferenceIdeal.main_v31
      = Cert.KernelIdeal.Gen.V m c Cert.KernelIdeal.main_v18 := by
    rw [Cert.ReferenceIdeal.Hand.V_v31, Cert.KernelIdeal.Hand.V_v18, h2]
    exact (row_eq _).symm
  have e3 : Cert.ReferenceIdeal.Gen.V m' c Cert.ReferenceIdeal.main_v32
      = Cert.KernelIdeal.Gen.V m c Cert.KernelIdeal.main_v19 := by
    rw [Cert.ReferenceIdeal.Hand.V_v32, Cert.KernelIdeal.Hand.V_v19, h3]
    exact (row_eq _).symm
  funext j
  obtain ⟨r, k, rfl⟩ : ∃ (r : Fin 16) (k : Fin 28672), j = ix2 r k := ⟨j 0, j 1, eq_ix2 j⟩
  refine (reference_pay _ _ _ _ _ r k).trans ?_
  rw [codes_agree m m' c h0, scales_agree m m' c h0, e1, e2, e3]
  rfl

end Cert.Proof

end
-- ==== Proof.KernelText.lean ====
module

public import proofs.«01_k».proof.Proof.KernelFrame
public import proofs.«01_k».proof.Proof.Gen.Kernel

/-! # The kernel's frame, from the ideal kernel's

The ideal kernel is the kernel's own text, read over other floats. Both are printed over any floats, so the frame, proved of the
ideal kernel's text over any floats, is the kernel's too. -/

@[expose] public section

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The two kernel bodies are one text. -/
theorem body_eq : @Cert.Kernel.cc0__body F _ _ = @Cert.KernelIdeal.cc0__body F _ _ := rfl

/-- The two tables of bodies are equal. -/
theorem defs₀_eq : Cert.Kernel.defs₀ (F := F) = Cert.KernelIdeal.defs₀ (F := F) := by
  funext p l a
  cases p with
  | tc =>
    match l, a with
    | 0, (t, s) => rfl
    | ⟨_ + 1, h⟩, _ => exact absurd h (Nat.not_lt.2 (Nat.le_add_left _ _))
  | scScalar _ => rfl
  | scVector _ _ => rfl

/-- The two tables, the pipeline's loop included, are equal. -/
theorem defs_eq : Cert.Kernel.defs (F := F) = Cert.KernelIdeal.defs (F := F) :=
  congrArg (Pipeline.defs (Cert.KernelIdeal.pcfgs (F := F))) defs₀_eq

/-- The two host programs are one text. -/
theorem main_eq : Cert.Kernel.main (F := F) = Cert.KernelIdeal.main (F := F) := rfl

variable (m : (ℓ : Loc nD τ sig) → Buf (Elt F) ℓ) (ρ : Dev nD → PrngReg)

/-- The kernel's frame: the argument arrays end unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Hand.frame m ρ

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.KernelText
public import Idealize.ShloMosaic.Adequacy
public import Idealize.ShloMosaic.Init

@[expose] public section

noncomputable section

namespace Cert.Proof

open Idealize.ShloMosaic Idealize.SL.Sem

section Runs

open Cert.KernelIdeal

/-- The kernel's run: the three results hold the output, the codes and the scales, and the arguments are unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v20_0) = Hand.output m c
      ∧ r.2.mem ((c.tc : Thread nD τ).loc main_v20_1) = Hand.codesOf m c
      ∧ r.2.mem ((c.tc : Thread nD τ).loc main_v20_2) = Hand.scalesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨((h.1 c).1 5).trans (Hand.array5 m c), ((h.1 c).1 6).trans (Hand.array6 m c),
      ((h.1 c).1 7).trans (Hand.array7 m c), h.2 c⟩)
    (θ_run_and (Hand.run_main m g) (Hand.unchanged m g))

end Runs

/-- From equal arguments the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hargs =>
  ⟨Cert.KernelIdeal.Hand.output m, Cert.KernelIdeal.Hand.codesOf m, Cert.KernelIdeal.Hand.scalesOf m, kernel_run m g,
    (θ_run Cert.ReferenceIdeal.defs _ _).mono
      (fun r h c => by
        obtain ⟨h0, h1, h2, h3⟩ := hargs c
        obtain ⟨r0, r1, r2, kept⟩ := h c
        exact ⟨r0.trans ((Cert.ReferenceIdeal.Hand.array5 m' c).trans (outputs_agree m m' c h0 h1 h2 h3)),
          r1.trans ((Cert.ReferenceIdeal.Hand.array6 m' c).trans (codes_agree m m' c h0)),
          r2.trans ((Cert.ReferenceIdeal.Hand.array7 m' c).trans (scales_agree m m' c h0)), kept⟩)
      (Cert.ReferenceIdeal.Value.run_blocks m' g')⟩

/-- All five claims. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, algebraic⟩

end Cert.Proof

end
